-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_rt_hd" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x1024 : Shape := ⟨3, ![4, 4096, 1024]⟩
abbrev S8x1024 : Shape := ⟨2, ![8, 1024]⟩
abbrev S1024x1024 : Shape := ⟨2, ![1024, 1024]⟩
abbrev S2048x1024 : Shape := ⟨2, ![2048, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S1024x1024 .f32 := Host.absf main_arg5
  let main_cst_8 : FVec F S_ .f32 := constant S_ .f32 0x7F800000#32
  let main_v21 : FVec F S1024x1024 .f32 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S1024 .f32 := Host.absf main_arg7
  let main_cst_12 : FVec F S_ .f32 := constant S_ .f32 0x7F800000#32
  let main_v29 : FVec F S1024 .f32 := broadcastInDim S1024 ![] bcast_S_S1024 main_cst_12
  let main_v30 : IVec S1024 1 := cmpf .olt main_v28 main_v29
  let main_c_13 : IVec S_ 1 := constantI S_ 1 1#1
  let main_v31 : IVec S_ 1 := (fun x v => Host.reduce IntOp.andi x v reducesTo_S1024_S_d0 h_S_) main_v30 main_c_13
  fn_part2 (F := F) main_v3 main_v7 main_v11 main_v15 main_v19 main_v23 main_v27 main_v31

def fn {F : FTy → Type} [FloatOps F] (main_arg0 : FVec F S4x4096x1024 .f32) (main_arg1 : FVec F S8x1024 .f32) (main_arg2 : FVec F S1024x1024 .f32) (main_arg3 : FVec F S2048x1024 .f32) (main_arg4 : FVec F S1024x1024 .f32) (main_arg5 : FVec F S1024x1024 .f32) (main_arg6 : FVec F S1024x1024 .f32) (main_arg7 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S2048x1024 .f32 := Host.absf main_arg3
  let main_cst_4 : FVec F S_ .f32 := constant S_ .f32 0x7F800000#32
  let main_v13 : FVec F S2048x1024 .f32 := broadcastInDim S2048x1024 ![] bcast_S_S2048x1024 main_cst_4
  let main_v14 : IVec S2048x1024 1 := cmpf .olt main_v12 main_v13
  let main_c_5 : IVec S_ 1 := constantI S_ 1 1#1
  let main_v15 : IVec S_ 1 := (fun x v => Host.reduce IntOp.andi x v reducesTo_S2048x1024_S_d0_1 h_S_) main_v14 main_c_5
  fn_part1 (F := F) main_arg4 main_arg5 main_arg6 main_arg7 main_v3 main_v7 main_v11 main_v15
-- ==== Kernel.lean ====
abbrev S4x4096x1024 : Shape := ⟨3, ![4, 4096, 1024]⟩
abbrev S8x1024 : Shape := ⟨2, ![8, 1024]⟩
abbrev S1024x1024 : Shape := ⟨2, ![1024, 1024]⟩
abbrev S2048x1024 : Shape := ⟨2, ![2048, 1024]⟩
abbrev S1024 : Shape := ⟨1, ![1024]⟩
abbrev S4x2x2048x1024 : Shape := ⟨4, ![4, 2, 2048, 1024]⟩
abbrev S1024x1 : Shape := ⟨2, ![1024, 1]⟩
abbrev S1024x8 : Shape := ⟨2, ![1024, 8]⟩
abbrev S1024x64 : Shape := ⟨2, ![1024, 64]⟩
abbrev S4x1024x8 : Shape := ⟨3, ![4, 1024, 8]⟩
abbrev S4x8x1024 : Shape := ⟨3, ![4, 8, 1024]⟩
abbrev S1x1x2048x1024 : Shape := ⟨4, ![1, 1, 2048, 1024]⟩
abbrev S1x1024x8 : Shape := ⟨3, ![1, 1024, 8]⟩
abbrev S2048x8 : Shape := ⟨2, ![2048, 8]⟩
abbrev S2048 : Shape := ⟨1, ![2048]⟩
abbrev S2048x1 : Shape := ⟨2, ![2048, 1]⟩
abbrev S2048x64 : Shape := ⟨2, ![2048, 64]⟩
abbrev S64 : Shape := ⟨1, ![64]⟩
abbrev S1x64 : Shape := ⟨2, ![1, 64]⟩
abbrev S64x1024 : Shape := ⟨2, ![64, 1024]⟩
abbrev S8 : Shape := ⟨1, ![8]⟩
abbrev S1x8 : Shape := ⟨2, ![1, 8]⟩

abbrev nBuf : Space → Nat
  | .hbm => 22
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S8x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4x2x2048x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1, .f32⟩
  | .hbm, ⟨13, _⟩ => ⟨S1024x8, .f32⟩
  | .hbm, ⟨14, _⟩ => ⟨S1024x1024, .f32⟩
  | .hbm, ⟨15, _⟩ => ⟨S1024x64, .bf16⟩
  | .hbm, ⟨16, _⟩ => ⟨S1024x1024, .bf16⟩
  | .hbm, ⟨17, _⟩ => ⟨S1024x1024, .bf16⟩
  | .hbm, ⟨18, _⟩ => ⟨S4x2x2048x1024, .f32⟩
  | .hbm, ⟨19, _⟩ => ⟨S4x1024x8, .f32⟩
  | .hbm, ⟨20, _⟩ => ⟨S4x4096x1024, .f32⟩
  | .hbm, ⟨21, _⟩ => ⟨S4x8x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x64, .bf16⟩
  | .local _ .vmem, ⟨7, _⟩ => ⟨S1024x1024, .bf16⟩
  | .local _ .vmem, ⟨8, _⟩ => ⟨S1024x1024, .bf16⟩
  | .local _ .vmem, ⟨9, _⟩ => ⟨S1x1x2048x1024, .f32⟩
  | .local _ .vmem, ⟨10, _⟩ => ⟨S1x1x2048x1024, .f32⟩
  | .local _ .vmem, ⟨11, _⟩ => ⟨S1024x64, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x8, .f32⟩
  | .local _ .vmem, ⟨16, _⟩ => ⟨S1x1x2048x1024, .f32⟩
  | .local _ .vmem, ⟨17, _⟩ => ⟨S1x1x2048x1024, .f32⟩
  | .local _ .vmem, ⟨18, _⟩ => ⟨S1x1024x8, .f32⟩
  | .local _ .vmem, ⟨19, _⟩ => ⟨S1x1024x8, .f32⟩
  | .local _ .vmem, ⟨20, _⟩ => ⟨S1024x8, .f32⟩
  | .local _ .vmem, ⟨21, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7_0 : Ref sig .tc := ⟨.hbm, 15, rfl⟩
abbrev main_call0_v7_1 : Ref sig .tc := ⟨.hbm, 16, rfl⟩
abbrev main_call0_v7_2 : Ref sig .tc := ⟨.hbm, 17, rfl⟩
abbrev main_call0_v8_0 : Ref sig .tc := ⟨.hbm, 18, rfl⟩
abbrev main_call0_v8_1 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![4, 3], ![false, false]⟩

def cc1_transform_0 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c1_i32_0 : BitVec 32 := 1#32
  let v1 : BitVec 32 := Scalar.subi c1_i32_0 v0
  let c0_i32 : BitVec 32 := 0#32
  let c0_i32_1 : BitVec 32 := 0#32
  let c0_i32_2 : BitVec 32 := 0#32
  ![arg0.toNat, v1.toNat, c0_i32.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c2_i32 : BitVec 32 := 2#32
  let v1 : BitVec 32 := Scalar.subi c2_i32 v0
  let c0_i32 : BitVec 32 := 0#32
  let c0_i32_0 : BitVec 32 := 0#32
  let c0_i32_1 : BitVec 32 := 0#32
  ![arg0.toNat, v1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x2048x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== KernelIdeal.lean ====
variable {F : FTy → Type} [FloatOps F] [Named F]
def κ : String → Option EReal := fun
  | "inv_rt_hd" => some (((Real.sqrt 128)⁻¹ : ℝ) : EReal)
  | "mask" => some ⊥
  | _ => none
-- ==== ReferenceIdeal.lean ====
abbrev S4x4096x1024 : Shape := ⟨3, ![4, 4096, 1024]⟩
abbrev S8x1024 : Shape := ⟨2, ![8, 1024]⟩
abbrev S1024x1024 : Shape := ⟨2, ![1024, 1024]⟩
abbrev S2048x1024 : Shape := ⟨2, ![2048, 1024]⟩
abbrev S1024 : Shape := ⟨1, ![1024]⟩
abbrev S4x8x512x1024 : Shape := ⟨4, ![4, 8, 512, 1024]⟩
abbrev S4x8x512x8x128 : Shape := ⟨5, ![4, 8, 512, 8, 128]⟩
abbrev S8x8x128 : Shape := ⟨3, ![8, 8, 128]⟩
abbrev S8x8x4x512 : Shape := ⟨4, ![8, 8, 4, 512]⟩
abbrev S4x8x8x512 : Shape := ⟨4, ![4, 8, 8, 512]⟩
abbrev S_ : Shape := ⟨0, ![]⟩
abbrev S4x8x8 : Shape := ⟨3, ![4, 8, 8]⟩
abbrev S4x8x8x1 : Shape := ⟨4, ![4, 8, 8, 1]⟩
abbrev S4x8x8x128 : Shape := ⟨4, ![4, 8, 8, 128]⟩
abbrev S4x8x1024 : Shape := ⟨3, ![4, 8, 1024]⟩
abbrev S1x1x1024 : Shape := ⟨3, ![1, 1, 1024]⟩
abbrev S4x8 : Shape := ⟨2, ![4, 8]⟩
abbrev S4x8x1 : Shape := ⟨3, ![4, 8, 1]⟩
abbrev S1024x2048 : Shape := ⟨2, ![1024, 2048]⟩
abbrev S4x8x2048 : Shape := ⟨3, ![4, 8, 2048]⟩
abbrev S4x4096x8 : Shape := ⟨3, ![4, 4096, 8]⟩
abbrev S4096 : Shape := ⟨1, ![4096]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S1x4096x8 : Shape := ⟨3, ![1, 4096, 8]⟩
abbrev S4x4096 : Shape := ⟨2, ![4, 4096]⟩
abbrev S4x4096x1 : Shape := ⟨3, ![4, 4096, 1]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x1024, .f32⟩
  | .hbm, ⟨2, _⟩ => ⟨S1024x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4x8x512x1024, .f32⟩
  | .hbm, ⟨9, _⟩ => ⟨S1024x1024, .f32⟩
  | .hbm, ⟨10, _⟩ => ⟨S4x8x512x1024, .f32⟩
  | .hbm, ⟨11, _⟩ => ⟨S4x8x512x8x128, .f32⟩
  | .hbm, ⟨12, _⟩ => ⟨S1024x1024, .f32⟩
  | .hbm, ⟨13, _⟩ => ⟨S4x8x512x1024, .f32⟩
  | .hbm, ⟨14, _⟩ => ⟨S4x8x512x8x128, .f32⟩
  | .hbm, ⟨15, _⟩ => ⟨S1024x1024, .f32⟩
  | .hbm, ⟨16, _⟩ => ⟨S8x1024, .f32⟩
  | .hbm, ⟨17, _⟩ => ⟨S8x8x128, .f32⟩
  | .hbm, ⟨18, _⟩ => ⟨S8x8x4x512, .f32⟩
  | .hbm, ⟨19, _⟩ => ⟨S4x8x8x512, .f32⟩
  | .hbm, ⟨20, _⟩ => ⟨S_, .f32⟩
  | .hbm, ⟨21, _⟩ => ⟨S_, .f32⟩
  | .hbm, ⟨22, _⟩ => ⟨S4x8x8x512, .f32⟩
  | .hbm, ⟨23, _⟩ => ⟨S4x8x8x512, .f32⟩
  | .hbm, ⟨24, _⟩ => ⟨S_, .f32⟩
  | .hbm, ⟨25, _⟩ => ⟨S4x8x8, .f32⟩
  | .hbm, ⟨26, _⟩ => ⟨S_, .f32⟩
  | .hbm, ⟨27, _⟩ => ⟨S4x8x8, .f32⟩
  | .hbm, ⟨28, _⟩ => ⟨S4x8x8, .f32⟩
  | .hbm, ⟨29, _⟩ => ⟨S4x8x8x1, .f32⟩
  | .hbm, ⟨30, _⟩ => ⟨S4x8x8x512, .f32⟩
  | .hbm, ⟨31, _⟩ => ⟨S4x8x8x512, .f32⟩
  | .hbm, ⟨32, _⟩ => ⟨S4x8x8x512, .f32⟩
  | .hbm, ⟨33, _⟩ => ⟨S_, .f32⟩
  | .hbm, ⟨34, _⟩ => ⟨S4x8x8, .f32⟩
  | .hbm, ⟨35, _⟩ => ⟨S4x8x8x1, .f32⟩
  | .hbm, ⟨36, _⟩ => ⟨S4x8x8x512, .f32⟩
  | .hbm, ⟨37, _⟩ => ⟨S4x8x8x512, .f32⟩
  | .hbm, ⟨38, _⟩ => ⟨S4x8x8x128, .f32⟩
  | .hbm, ⟨39, _⟩ => ⟨S4x8x1024, .f32⟩
  | .hbm, ⟨40, _⟩ => ⟨S1x1x1024, .f32⟩
  | .hbm, ⟨41, _⟩ => ⟨S4x8x1024, .f32⟩
  | .hbm, ⟨42, _⟩ => ⟨S4x8x1024, .f32⟩
  | .hbm, ⟨43, _⟩ => ⟨S4x8x1024, .f32⟩
  | .hbm, ⟨44, _⟩ => ⟨S_, .f32⟩
  | .hbm, ⟨45, _⟩ => ⟨S4x8, .f32⟩
  | .hbm, ⟨46, _⟩ => ⟨S4x8x1, .f32⟩
  | .hbm, ⟨47, _⟩ => ⟨S_, .f32⟩
  | .hbm, ⟨48, _⟩ => ⟨S4x8x1, .f32⟩
  | .hbm, ⟨49, _⟩ => ⟨S4x8x1, .f32⟩
  | .hbm, ⟨50, _⟩ => ⟨S_, .f32⟩
  | .hbm, ⟨51, _⟩ => ⟨S4x8x1, .f32⟩
  | .hbm, ⟨52, _⟩ => ⟨S4x8x1, .f32⟩
  | .hbm, ⟨53, _⟩ => ⟨S4x8x1, .f32⟩
  | .hbm, ⟨54, _⟩ => ⟨S4x8x1024, .f32⟩
  | .hbm, ⟨55, _⟩ => ⟨S4x8x1024, .f32⟩
  | .hbm, ⟨56, _⟩ => ⟨S1024x1024, .f32⟩
  | .hbm, ⟨57, _⟩ => ⟨S4x4096x1024, .f32⟩
  | .hbm, ⟨58, _⟩ => ⟨S1024x2048, .f32⟩
  | .hbm, ⟨59, _⟩ => ⟨S4x8x2048, .f32⟩
  | .hbm, ⟨60, _⟩ => ⟨S4x8x1024, .f32⟩
  | .hbm, ⟨61, _⟩ => ⟨S4x8x1024, .f32⟩
  | .hbm, ⟨62, _⟩ => ⟨S4x4096x8, .f32⟩
  | .hbm, ⟨63, _⟩ => ⟨S_, .f32⟩
  | .hbm, ⟨64, _⟩ => ⟨S4x4096x8, .f32⟩
  | .hbm, ⟨65, _⟩ => ⟨S4x4096x8, .f32⟩
  | .hbm, ⟨66, _⟩ => ⟨S4096, .i32⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S8, .i32⟩
  | .hbm, ⟨72, _⟩ => ⟨S1x8, .i32⟩
  | .hbm, ⟨73, _⟩ => ⟨S4096x8, .i32⟩
  | .hbm, ⟨74, _⟩ => ⟨S4096x8, .i32⟩
  | .hbm, ⟨75, _⟩ => ⟨S4096x8, .i1⟩
  | .hbm, ⟨76, _⟩ => ⟨S1x4096x8, .i1⟩
  | .hbm, ⟨77, _⟩ => ⟨S4x4096x8, .i1⟩
  | .hbm, ⟨78, _⟩ => ⟨S_, .f32⟩
  | .hbm, ⟨79, _⟩ => ⟨S4x4096x8, .f32⟩
  | .hbm, ⟨80, _⟩ => ⟨S4x4096x8, .f32⟩
  | .hbm, ⟨81, _⟩ => ⟨S_, .f32⟩
  | .hbm, ⟨82, _⟩ => ⟨S4x4096, .f32⟩
  | .hbm, ⟨83, _⟩ => ⟨S_, .f32⟩
  | .hbm, ⟨84, _⟩ => ⟨S4x4096, .f32⟩
  | .hbm, ⟨85, _⟩ => ⟨S4x4096, .f32⟩
  | .hbm, ⟨86, _⟩ => ⟨S4x4096x1, .f32⟩
  | .hbm, ⟨87, _⟩ => ⟨S4x4096x8, .f32⟩
  | .hbm, ⟨88, _⟩ => ⟨S4x4096x8, .f32⟩
  | .hbm, ⟨89, _⟩ => ⟨S4x4096x8, .f32⟩
  | .hbm, ⟨90, _⟩ => ⟨S_, .f32⟩
  | .hbm, ⟨91, _⟩ => ⟨S4x4096, .f32⟩
  | .hbm, ⟨92, _⟩ => ⟨S4x4096x1, .f32⟩
  | .hbm, ⟨93, _⟩ => ⟨S4x4096x8, .f32⟩
  | .hbm, ⟨94, _⟩ => ⟨S4x4096x8, .f32⟩
  | .hbm, ⟨95, _⟩ => ⟨S4x4096x1024, .f32⟩
  | .hbm, ⟨96, _⟩ => ⟨S4x4096x1024, .f32⟩
  | .hbm, ⟨97, _⟩ => ⟨S4x4096x1024, .f32⟩
  | .hbm, ⟨98, _⟩ => ⟨S_, .f32⟩
  | .hbm, ⟨99, _⟩ => ⟨S4x4096x1024, .f32⟩
  | .hbm, ⟨100, _⟩ => ⟨S4x4096x1024, .f32⟩
  | .hbm, ⟨101, _⟩ => ⟨S_, .f32⟩
  | .hbm, ⟨102, _⟩ => ⟨S4x4096x1024, .f32⟩
  | .hbm, ⟨103, _⟩ => ⟨S4x4096x1024, .f32⟩
  | .hbm, ⟨104, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Proof.BodyKernelIdeal.lean ====
/-
  The two kernel bodies as functions of what they load: one triple per body, from the contents of its windows and scratch
  buffers before a grid point to their contents after it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole rectangles of a 1024 × 1024 and of an 8 × 1024 buffer. -/
abbrev rectM : Rect S1024x1024 := Rect.unit (s := S1024x1024) ![0, 0] S1024x1024.size inb_S1024x1024_S1024x1024_0_0
abbrev rectS : Rect S8x1024 := Rect.unit (s := S8x1024) ![0, 0] S8x1024.size inb_S8x1024_S8x1024_0_0

/-! ## The preparation kernel -/

/-- The column index and the row index of the 1024 × 64 matrix. -/
abbrev colIx : IVec S1024x64 32 := iota .tc S1024x64 32 [1] iota_S1024x64_d1_w32
abbrev rowIx : IVec S1024x64 32 := iota .tc S1024x64 32 [0] iota_S1024x64_d0_w32

/-- Where a row's head is the column's head. -/
def headMask : IVec S1024x64 1 :=
  k0_pay8 rowIx k0_pay5 128#32 k0_pay6 k0_pay7 (Scalar.extui (Scalar.cmpi .sgt 128#32 0#32)) (Scalar.cmpi .slt 128#32 0#32)

/-- The scaled queries laid out head by head after their first one, two, four and six terms (`q`: the unscaled queries). -/
def prepAcc1 (q : FVec F S1024x8 .f32) : FVec F S1024x64 .f32 :=
  k0_pay9 q colIx rowIx k0_pay5 128#32 k0_pay6 k0_pay7 (Scalar.extui (Scalar.cmpi .sgt 128#32 0#32)) (Scalar.cmpi .slt 128#32 0#32)
def prepAcc2 (q : FVec F S1024x8 .f32) : FVec F S1024x64 .f32 :=
  k0_pay11 q headMask (prepAcc1 q) (Scalar.select (Scalar.cmpi .eq 8#32 0#32) 1#32 8#32) (k0_pay10 colIx)
def prepAcc3 (q : FVec F S1024x8 .f32) : FVec F S1024x64 .f32 :=
  k0_pay14 q colIx headMask (prepAcc2 q) (k0_pay12 colIx headMask) (k0_pay13 q) (Scalar.ofBits .f32 0x00000000#32)
def prepAcc4 (q : FVec F S1024x8 .f32) : FVec F S1024x64 .f32 :=
  k0_pay17 q colIx headMask (prepAcc3 q) (Scalar.select (Scalar.cmpi .eq 8#32 0#32) 1#32 8#32) (k0_pay15 colIx) (k0_pay16 colIx)
def prepAcc5 (q : FVec F S1024x8 .f32) : FVec F S1024x64 .f32 :=
  k0_pay19 q headMask (prepAcc4 q) (Scalar.select (Scalar.cmpi .eq 8#32 0#32) 1#32 8#32) (k0_pay18 colIx)

/-- The folded score weights, from the write key weights `wk`, the write query weights `wq` and the memory slots `ms`. -/
def prepScore (wk wq : Vec F S1024x1024 .f32) (ms : Vec F S8x1024 .f32) : FVec F S1024x64 .bf16 :=
  k0_pay1 (prepAcc5 (k0_pay4 wq ms)) (k0_pay20 colIx headMask) (k0_pay21 (k0_pay4 wq ms)) (Scalar.ofBits .f32 0x00000000#32) wk

set_option maxHeartbeats 4000000 in
/-- The preparation body: from its six operands' blocks it leaves the folded score weights, the folded read weights and
    the write value weights. -/
theorem prep_triple (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S8x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x64 .bf16) (harg6 : arg6.IsWhole) (arg7 : Memref sig .tc .vmem S1024x1024 .bf16) (harg7 : arg7.IsWhole) (arg8 : Memref sig .tc .vmem S1024x1024 .bf16) (harg8 : arg8.IsWhole)
    (x0 x1 : Vec F S1024x1024 .f32) (x2 : Vec F S8x1024 .f32) (x3 x4 x5 : Vec F S1024x1024 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare (prepScore x0 x1 x2) ∗ owns (c : Thread nD τ) arg7 fullShare (k0_pay2 x3 x4)
            ∗ owns (c : Thread nD τ) arg8 fullShare (k0_pay3 x5)) -∗ K ⟨⟩))
      ⊢ wp frame (wpE (defs₀ (F := F)) Variants.none (c : Thread nD τ) none) E
        (cc0_memory_prep arg0 harg0 arg1 harg1 arg2 harg2 arg3 harg3 arg4 harg4 arg5 harg5 arg6 harg6 arg7 harg7 arg8 harg8) K := by
  simp only [cc0_memory_prep_eq_skeleton]; unfold cc0_memory_prep_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    refine (View.read_writes_full _ _ _ _ _).trans (Eq.trans (b := prepScore (View.readAt (Elt F) arg0.view rectM.toLoadRect f0)
      (View.readAt (Elt F) arg1.view rectM.toLoadRect f1) (View.readAt (Elt F) arg2.view rectS.toLoadRect f2)) rfl ?_)
    rw [View.readAt_full, View.readAt_full, View.readAt_full]
  isplitl [H7]
  · iexists _; isplitr
    swap; · iexact H7
    ipureintro
    refine (View.read_writes_full _ _ _ _ _).trans (Eq.trans (b := k0_pay2 (View.readAt (Elt F) arg3.view rectM.toLoadRect f3)
      (View.readAt (Elt F) arg4.view rectM.toLoadRect f4)) rfl ?_)
    rw [View.readAt_full, View.readAt_full]
  · iexists _; isplitr
    swap; · iexact H8
    ipureintro
    refine (View.read_writes_full _ _ _ _ _).trans (Eq.trans (b := k0_pay3 (View.readAt (Elt F) arg5.view rectM.toLoadRect f5)) rfl ?_)
    rw [View.readAt_full]

/-! ## The fused kernel -/

/-- The whole rectangles of the fused kernel's buffers. -/
abbrev rectX : Rect S1x1x2048x1024 := Rect.unit (s := S1x1x2048x1024) ![0, 0, 0, 0] S1x1x2048x1024.size inb_S1x1x2048x1024_S1x1x2048x1024_0_0_0_0
abbrev rectP : Rect S2048x1024 := Rect.unit (s := S2048x1024) ![0, 0] S2048x1024.size inb_S2048x1024_S2048x1024_0_0
abbrev rectG : Rect S1024x64 := Rect.unit (s := S1024x64) ![0, 0] S1024x64.size inb_S1024x64_S1024x64_0_0
abbrev rectT : Rect S1024x8 := Rect.unit (s := S1024x8) ![0, 0] S1024x8.size inb_S1024x8_S1024x8_0_0

/-- The body's test that a point is the first of its batch. -/
abbrev isFirst (i : grid1.Coords) : Prop :=
  Scalar.cmpi .ne (Scalar.extui (Scalar.cmpi .eq (BitVec.ofNat 32 (i 1).val) 0#32)) 0#32 = 1#1

/-- The memory the body works with at a point: zero at a batch's first point, what the scratch holds at the others. -/
def memIn (i : grid1.Coords) (M : Vec F S1024x8 .f32) : Vec F S1024x8 .f32 := if isFirst i then k1_pay4 else M

/-- The write phase's new memory columns before they are laid out, from the block `x`, the folded score weights `g` and the
    write value weights `wv`. -/
def memRaw (i : grid1.Coords) (x : Vec F S1x1x2048x1024 .f32) (g : Vec F S1024x64 .bf16) (wv : Vec F S1024x1024 .bf16) : FVec F S1024x64 .f32 :=
  k1_pay14 (k1_pay10 x) (k1_pay12 (Scalar.muli (Scalar.subi 1#32 (BitVec.ofNat 32 (i 1).val)) 4#32) (iota .tc S2048x64 32 [0] iota_S2048x64_d0_w32) 512#32)
    (k1_pay13 (Scalar.muli (Scalar.subi 1#32 (BitVec.ofNat 32 (i 1).val)) 4#32) (k1_pay11 x g) (iota .tc S2048x64 32 [0] iota_S2048x64_d0_w32) 512#32) wv

/-- The memory after a point, from the memory `M` the point started with. -/
def memOut (i : grid1.Coords) (x : Vec F S1x1x2048x1024 .f32) (g : Vec F S1024x64 .bf16) (wv : Vec F S1024x1024 .bf16) (wm M : Vec F S1024x8 .f32) :
    Vec F S1024x8 .f32 :=
  k1_pay1 (k1_pay17 (memRaw i x g wv) k1_pay15 k1_pay16) (k1_pay18 k1_pay15) (k1_pay19 (memRaw i x g wv)) wm M

/-- The output block of a point, from the folded read weights `w`, the read value weights `wr`, the memory `M` the point starts
    with and the previous block `p`. -/
def readOut (i : grid1.Coords) (w wr : Vec F S1024x1024 .bf16) (M : Vec F S1024x8 .f32) (p : Vec F S2048x1024 .bf16) : Vec F S1x1x2048x1024 .f32 :=
  k1_pay9 (Scalar.muli (Scalar.subi 2#32 (BitVec.ofNat 32 (i 1).val)) 4#32) (k1_pay5 M) (k1_pay6 M w p)
    (iota .tc S2048x8 32 [1] iota_S2048x8_d1_w32) k1_pay7 k1_pay8 wr

/-- The block kept for the next point. -/
def keep (x : Vec F S1x1x2048x1024 .f32) : Vec F S2048x1024 .bf16 := k1_pay3 (k1_pay10 x)

set_option maxHeartbeats 400000 in
/-- The fused body: from its six operands' blocks, the memory `M` and the previous block `p` in its scratch buffers, it leaves the
    point's output block, the memory's block, the new memory and the block for the next point. -/
theorem fused_triple (c : Dev nD) (E : Set ℕ)
    (i : grid1.Coords) (arg2 : Memref sig .tc .vmem S1x1x2048x1024 .f32) (harg2 : arg2.IsWhole) (arg3 : Memref sig .tc .vmem S1024x64 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x8 .f32) (harg7 : arg7.IsWhole) (arg8 : Memref sig .tc .vmem S1x1x2048x1024 .f32) (harg8 : arg8.IsWhole) (arg9 : Memref sig .tc .vmem S1x1024x8 .f32) (harg9 : arg9.IsWhole) (arg10 : Memref sig .tc .vmem S1024x8 .f32) (harg10 : arg10.IsWhole) (arg11 : Memref sig .tc .vmem S2048x1024 .bf16) (harg11 : arg11.IsWhole)
    (x0 : Vec F S1x1x2048x1024 .f32) (x1 : Vec F S1024x64 .bf16) (x2 x3 x4 : Vec F S1024x1024 .bf16) (x5 M : Vec F S1024x8 .f32)
    (p : Vec F S2048x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare M ∗ owns (c : Thread nD τ) arg11 fullShare p
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (readOut i x2 x4 (memIn i M) p)
            ∗ owns (c : Thread nD τ) arg9 fullShare (k1_pay2 (memOut i x0 x1 x3 x5 (memIn i M)))
            ∗ owns (c : Thread nD τ) arg10 fullShare (memOut i x0 x1 x3 x5 (memIn i M))
            ∗ owns (c : Thread nD τ) arg11 fullShare (keep x0)) -∗ K ⟨⟩))
      ⊢ wp frame (wpE (defs₀ (F := F)) Variants.none (c : Thread nD τ) none) E
        (cc1_memory_fused i arg2 harg2 arg3 harg3 arg4 harg4 arg5 harg5 arg6 harg6 arg7 harg7 arg8 harg8 arg9 harg9 arg10 harg10 arg11 harg11) K := by
  simp only [cc1_memory_fused_eq_skeleton]; unfold cc1_memory_fused_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  subst hf2 hf3 hf4 hf5 hf6 hf7 hf10 hf11
  by_cases hC : isFirst i
  · unfold memIn
    rw [if_pos hC]
    sl_exec
    sl_step
    iapply Hk
    have e2 : View.readAt (Elt F) arg2.view (Rect.unit ![0, 0, 0, 0] ![1, 1, 2048, 1024] inb_S1x1x2048x1024_S1x1x2048x1024_0_0_0_0).toLoadRect f2 = View.read (Elt F) arg2.view f2 := View.readAt_full _ _ _
    have e3 : View.readAt (Elt F) arg3.view (Rect.unit ![0, 0] ![1024, 64] inb_S1024x64_S1024x64_0_0).toLoadRect f3 = View.read (Elt F) arg3.view f3 := View.readAt_full _ _ _
    have e4 : View.readAt (Elt F) arg4.view (Rect.unit ![0, 0] ![1024, 1024] inb_S1024x1024_S1024x1024_0_0).toLoadRect f4 = View.read (Elt F) arg4.view f4 := View.readAt_full _ _ _
    have e5 : View.readAt (Elt F) arg5.view (Rect.unit ![0, 0] ![1024, 1024] inb_S1024x1024_S1024x1024_0_0).toLoadRect f5 = View.read (Elt F) arg5.view f5 := View.readAt_full _ _ _
    have e6 : View.readAt (Elt F) arg6.view (Rect.unit ![0, 0] ![1024, 1024] inb_S1024x1024_S1024x1024_0_0).toLoadRect f6 = View.read (Elt F) arg6.view f6 := View.readAt_full _ _ _
    have e7 : View.readAt (Elt F) arg7.view (Rect.unit ![0, 0] ![1024, 8] inb_S1024x8_S1024x8_0_0).toLoadRect f7 = View.read (Elt F) arg7.view f7 := View.readAt_full _ _ _
    have e10 : View.readAt (Elt F) arg10.view (Rect.unit ![0, 0] ![1024, 8] inb_S1024x8_S1024x8_0_0).toLoadRect f10 = View.read (Elt F) arg10.view f10 := View.readAt_full _ _ _
    have e11 : View.readAt (Elt F) arg11.view (Rect.unit ![0, 0] ![2048, 1024] inb_S2048x1024_S2048x1024_0_0).toLoadRect f11 = View.read (Elt F) arg11.view f11 := View.readAt_full _ _ _
    have eC : ∀ (w : Vec F S1024x8 .f32) (L : List (View.Piece (Elt F) S1024x8 .f32)), arg10.view.readCov ((⟨Rect.unit ![0, 0] ![1024, 8] inb_S1024x8_S1024x8_0_0, w⟩ : View.Piece (Elt F) S1024x8 .f32) :: L) (Rect.unit ![0, 0] ![1024, 8] inb_S1024x8_S1024x8_0_0).toLoadRect = w := fun w L => View.readCov_full _ _ _ _ _
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (View.read_writes_full _ _ _ _ _).trans ?_
      dsimp only [fused_triple.sl.H10_1, fused_triple.sl.H10_2, fused_triple.sl.v0, fused_triple.sl.v1, fused_triple.sl.v2, fused_triple.sl.v3, fused_triple.sl.v4, fused_triple.sl.v5, fused_triple.sl.v15, fused_triple.sl.v66, fused_triple.sl.v67, fused_triple.sl.v74, fused_triple.sl.v227, fused_triple.sl.v232]
      rw [eC, e4, e6, e11]
      unfold readOut
      with_reducible rfl
    isplitl [H9]
    · iexists _; isplitr
      swap; · iexact H9
      ipureintro
      refine (View.read_writes_full _ _ _ _ _).trans ?_
      dsimp only [fused_triple.sl.H10_1, fused_triple.sl.H10_2, fused_triple.sl.v0, fused_triple.sl.v1, fused_triple.sl.v2, fused_triple.sl.v3, fused_triple.sl.v4, fused_triple.sl.v5, fused_triple.sl.v15, fused_triple.sl.v66, fused_triple.sl.v67, fused_triple.sl.v74, fused_triple.sl.v227, fused_triple.sl.v232]
      rw [eC, e2, e3, e5, e7, eC]
      unfold memOut memRaw
      with_reducible rfl
    isplitl [H10]
    · iexists _; isplitr
      swap; · iexact H10
      ipureintro
      refine (View.read_writes_full _ _ _ _ _).trans ?_
      dsimp only [fused_triple.sl.H10_1, fused_triple.sl.H10_2, fused_triple.sl.v0, fused_triple.sl.v1, fused_triple.sl.v2, fused_triple.sl.v3, fused_triple.sl.v4, fused_triple.sl.v5, fused_triple.sl.v15, fused_triple.sl.v66, fused_triple.sl.v67, fused_triple.sl.v74, fused_triple.sl.v227, fused_triple.sl.v232]
      rw [e2, e3, e5, e7, eC]
      unfold memOut memRaw
      with_reducible rfl
    iexists _; isplitr
    swap; · iexact H11
    ipureintro
    refine (View.read_writes_full _ _ _ _ _).trans ?_
    dsimp only [fused_triple.sl.H10_1, fused_triple.sl.H10_2, fused_triple.sl.v0, fused_triple.sl.v1, fused_triple.sl.v2, fused_triple.sl.v3, fused_triple.sl.v4, fused_triple.sl.v5, fused_triple.sl.v15, fused_triple.sl.v66, fused_triple.sl.v67, fused_triple.sl.v74, fused_triple.sl.v227, fused_triple.sl.v232]
    rw [e2]
    unfold keep
    with_reducible rfl
  · unfold memIn
    rw [if_neg hC]
    sl_exec
    sl_step
    iapply Hk
    have e2 : View.readAt (Elt F) arg2.view (Rect.unit ![0, 0, 0, 0] ![1, 1, 2048, 1024] inb_S1x1x2048x1024_S1x1x2048x1024_0_0_0_0).toLoadRect f2 = View.read (Elt F) arg2.view f2 := View.readAt_full _ _ _
    have e3 : View.readAt (Elt F) arg3.view (Rect.unit ![0, 0] ![1024, 64] inb_S1024x64_S1024x64_0_0).toLoadRect f3 = View.read (Elt F) arg3.view f3 := View.readAt_full _ _ _
    have e4 : View.readAt (Elt F) arg4.view (Rect.unit ![0, 0] ![1024, 1024] inb_S1024x1024_S1024x1024_0_0).toLoadRect f4 = View.read (Elt F) arg4.view f4 := View.readAt_full _ _ _
    have e5 : View.readAt (Elt F) arg5.view (Rect.unit ![0, 0] ![1024, 1024] inb_S1024x1024_S1024x1024_0_0).toLoadRect f5 = View.read (Elt F) arg5.view f5 := View.readAt_full _ _ _
    have e6 : View.readAt (Elt F) arg6.view (Rect.unit ![0, 0] ![1024, 1024] inb_S1024x1024_S1024x1024_0_0).toLoadRect f6 = View.read (Elt F) arg6.view f6 := View.readAt_full _ _ _
    have e7 : View.readAt (Elt F) arg7.view (Rect.unit ![0, 0] ![1024, 8] inb_S1024x8_S1024x8_0_0).toLoadRect f7 = View.read (Elt F) arg7.view f7 := View.readAt_full _ _ _
    have e10 : View.readAt (Elt F) arg10.view (Rect.unit ![0, 0] ![1024, 8] inb_S1024x8_S1024x8_0_0).toLoadRect f10 = View.read (Elt F) arg10.view f10 := View.readAt_full _ _ _
    have e11 : View.readAt (Elt F) arg11.view (Rect.unit ![0, 0] ![2048, 1024] inb_S2048x1024_S2048x1024_0_0).toLoadRect f11 = View.read (Elt F) arg11.view f11 := View.readAt_full _ _ _
    have eC : ∀ (w : Vec F S1024x8 .f32) (L : List (View.Piece (Elt F) S1024x8 .f32)), arg10.view.readCov ((⟨Rect.unit ![0, 0] ![1024, 8] inb_S1024x8_S1024x8_0_0, w⟩ : View.Piece (Elt F) S1024x8 .f32) :: L) (Rect.unit ![0, 0] ![1024, 8] inb_S1024x8_S1024x8_0_0).toLoadRect = w := fun w L => View.readCov_full _ _ _ _ _
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (View.read_writes_full _ _ _ _ _).trans ?_
      dsimp only [fused_triple.sl.H10_1_1, fused_triple.sl.v0_1, fused_triple.sl.v1_1, fused_triple.sl.v2_1, fused_triple.sl.v3_1, fused_triple.sl.v4_1, fused_triple.sl.v15_1, fused_triple.sl.v66_1, fused_triple.sl.v67_1, fused_triple.sl.v74_1, fused_triple.sl.v232_1]
      rw [e10, e4, e6, e11]
      unfold readOut
      with_reducible rfl
    isplitl [H9]
    · iexists _; isplitr
      swap; · iexact H9
      ipureintro
      refine (View.read_writes_full _ _ _ _ _).trans ?_
      dsimp only [fused_triple.sl.H10_1_1, fused_triple.sl.v0_1, fused_triple.sl.v1_1, fused_triple.sl.v2_1, fused_triple.sl.v3_1, fused_triple.sl.v4_1, fused_triple.sl.v15_1, fused_triple.sl.v66_1, fused_triple.sl.v67_1, fused_triple.sl.v74_1, fused_triple.sl.v232_1]
      rw [eC, e2, e3, e5, e7, e10]
      unfold memOut memRaw
      with_reducible rfl
    isplitl [H10]
    · iexists _; isplitr
      swap; · iexact H10
      ipureintro
      refine (View.read_writes_full _ _ _ _ _).trans ?_
      dsimp only [fused_triple.sl.H10_1_1, fused_triple.sl.v0_1, fused_triple.sl.v1_1, fused_triple.sl.v2_1, fused_triple.sl.v3_1, fused_triple.sl.v4_1, fused_triple.sl.v15_1, fused_triple.sl.v66_1, fused_triple.sl.v67_1, fused_triple.sl.v74_1, fused_triple.sl.v232_1]
      rw [e2, e3, e5, e7, e10]
      unfold memOut memRaw
      with_reducible rfl
    iexists _; isplitr
    swap; · iexact H11
    ipureintro
    refine (View.read_writes_full _ _ _ _ _).trans ?_
    dsimp only [fused_triple.sl.H10_1_1, fused_triple.sl.v0_1, fused_triple.sl.v1_1, fused_triple.sl.v2_1, fused_triple.sl.v3_1, fused_triple.sl.v4_1, fused_triple.sl.v15_1, fused_triple.sl.v66_1, fused_triple.sl.v67_1, fused_triple.sl.v74_1, fused_triple.sl.v232_1]
    rw [e2]
    unfold keep
    with_reducible rfl

end Cert.KernelIdeal.Body

end
-- ==== Proof.DataKernelIdeal.lean ====
/-
  The two pallas_calls as proof data: what each grid point finds and leaves, as functions of the buffers' contents when the call is
  entered, and the obligation that the bodies meet them. The fused call's first point reads a scratch buffer that nothing has
  written: of its output block nothing is claimed there (the next point writes the same block again).
-/
module

public import proofs.«01_k».proof.Proof.BodyKernelIdeal
public import Idealize.ShloMosaic.Lib.Pipeline.DatRel
public import Idealize.ShloMosaic.Lib.Pipeline.Cells

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of the preparation call's window `w`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of the fused call's window `w` at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The preparation call's data. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => prepScore (blk0 V c 0 t) (blk0 V c 1 t) (blk0 V c 2 t)
    | ⟨7, _⟩ => k0_pay2 (blk0 V c 3 t) (blk0 V c 4 t)
    | ⟨8, _⟩ => k0_pay3 (blk0 V c 5 t)
  Φ _ := Pipeline.scopedRest (Ix := Unit) (Name := ℕ) (U := UR sig nD τ) (Lvl := ℕ) (Val := Elt F) spec0 c
  q _ := fullShare
  owed _ := 0

theorem dat0_A (c : Dev nD) (w : Fin cfg0.W) : (dat0 V c).A w = V c (Pipeline.arrRef spec0 w) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl)
    (fun t => by dsimp only [dat0]; rfl) t d).trans rfl
theorem before0_1 (c : Dev nD) (t : Fin cfg0.N) (d) : (dat0 V c).before 1 t d = blk0 V c 1 t :=
  ((dat0 V c).before_in_eq_fetched 1 rfl (fun _ => rfl) (fun _ _ _ => rfl)
    (fun t => by dsimp only [dat0]; rfl) t d).trans rfl
theorem before0_2 (c : Dev nD) (t : Fin cfg0.N) (d) : (dat0 V c).before 2 t d = blk0 V c 2 t :=
  ((dat0 V c).before_in_eq_fetched 2 rfl (fun _ => rfl) (fun _ _ _ => rfl)
    (fun t => by dsimp only [dat0]; rfl) t d).trans rfl
theorem before0_3 (c : Dev nD) (t : Fin cfg0.N) (d) : (dat0 V c).before 3 t d = blk0 V c 3 t :=
  ((dat0 V c).before_in_eq_fetched 3 rfl (fun _ => rfl) (fun _ _ _ => rfl)
    (fun t => by dsimp only [dat0]; rfl) t d).trans rfl
theorem before0_4 (c : Dev nD) (t : Fin cfg0.N) (d) : (dat0 V c).before 4 t d = blk0 V c 4 t :=
  ((dat0 V c).before_in_eq_fetched 4 rfl (fun _ => rfl) (fun _ _ _ => rfl)
    (fun t => by dsimp only [dat0]; rfl) t d).trans rfl
theorem before0_5 (c : Dev nD) (t : Fin cfg0.N) (d) : (dat0 V c).before 5 t d = blk0 V c 5 t :=
  ((dat0 V c).before_in_eq_fetched 5 rfl (fun _ => rfl) (fun _ _ _ => rfl)
    (fun t => by dsimp only [dat0]; rfl) t d).trans rfl

/-- The preparation body meets its data. -/
theorem body0 (c : Dev nD) : BodyObligation (dat0 V c) (defs₀ (F := F)) Variants.none () Set.univ := fun t => by
  rw [bigSep_W0, bigSep_W0]
  rw [show (dat0 V c).Φ t.castSucc = (dat0 V c).Φ t.succ from rfl, show (dat0 V c).owesAt () t.succ = (dat0 V c).owesAt () t.castSucc from rfl]
  show _ ⊢ wp frame (wpE (defs₀ (F := F)) Variants.none (c : Thread nD τ) none) Set.univ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0, before0_1, before0_2, before0_3, before0_4, before0_5]
  iapply (prep_triple c Set.univ _ _ _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The fused call -/

/-- The memory after the first `n` points. -/
def memAt (c : Dev nD) : ℕ → Vec F S1024x8 .f32
  | 0 => k1_pay4
  | n + 1 =>
    if h : n < cfg1.N then
      memOut (cfg1.grid.coords ⟨n, h⟩) (blk1 V c 0 ⟨n, h⟩) (blk1 V c 1 ⟨n, h⟩) (blk1 V c 3 ⟨n, h⟩) (blk1 V c 5 ⟨n, h⟩)
        (memIn (cfg1.grid.coords ⟨n, h⟩) (memAt c n))
    else memAt c n

/-- The block kept by the point before the `n`-th. -/
def prevAt (c : Dev nD) (n : ℕ) : Vec F S2048x1024 .bf16 :=
  if h : n - 1 < cfg1.N then keep (blk1 V c 0 ⟨n - 1, h⟩) else keep fun _ => Scalar.ofBits .f32 0x00000000#32

/-- The output block of point `t` (of the first point only if the kept block were `prevAt`). -/
def outAt (c : Dev nD) (t : Fin cfg1.N) : Vec F S1x1x2048x1024 .f32 :=
  readOut (cfg1.grid.coords t) (blk1 V c 2 t) (blk1 V c 4 t) (memIn (cfg1.grid.coords t) (memAt V c t.val)) (prevAt V c t.val)

theorem memAt_succ (c : Dev nD) (t : Fin cfg1.N) : memAt V c (t.val + 1) =
    memOut (cfg1.grid.coords t) (blk1 V c 0 t) (blk1 V c 1 t) (blk1 V c 3 t) (blk1 V c 5 t) (memIn (cfg1.grid.coords t) (memAt V c t.val)) := by
  rw [memAt, dif_pos t.isLt]

theorem prevAt_succ (c : Dev nD) (t : Fin cfg1.N) : prevAt V c (t.val + 1) = keep (blk1 V c 0 t) := by
  unfold prevAt
  exact dif_pos t.isLt

/-- The first point is the first of its batch. -/
theorem isFirst_zero : ∀ t : Fin cfg1.N, t.val = 0 → isFirst (cfg1.grid.coords t) :=
  (by decide +kernel : ∀ t : Fin grid1.N, t.val = 0 → isFirst (grid1.coords t))

/-- Between points: the scratch buffers hold the memory and the kept block (before the first point, anything), and the preparation
    call's buffers hold anything. -/
def inv1 (c : Dev nD) (n : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ M : Vec F S1024x8 .f32, ⌜n ≠ 0 → M = memAt V c n⌝ ∗ owns (c : Thread nD τ) (Memref.whole cc1_scratch0 : Memref sig .tc .vmem S1024x8 .f32) fullShare M)
    ∗ (∃ p : Vec F S2048x1024 .bf16, ⌜n ≠ 0 → p = prevAt V c n⌝ ∗ owns (c : Thread nD τ) (Memref.whole cc1_scratch1 : Memref sig .tc .vmem S2048x1024 .bf16) fullShare p))

/-- The fused call's data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => outAt V c t
    | ⟨7, _⟩ => k1_pay2 (memAt V c (t.val + 1))
  Φ n := inv1 V c n.val
  q _ := fullShare
  owed _ := 0

theorem dat1_A (c : Dev nD) (w : Fin cfg1.W) : (dat1 V c).A w = V c (Pipeline.arrRef spec1 w) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl)
    (fun t => by dsimp only [dat1]; rfl) t d).trans rfl
theorem before1_1 (c : Dev nD) (t : Fin cfg1.N) (d) : (dat1 V c).before 1 t d = blk1 V c 1 t :=
  ((dat1 V c).before_in_eq_fetched 1 rfl (fun _ => rfl) (fun _ _ _ => rfl)
    (fun t => by dsimp only [dat1]; rfl) t d).trans rfl
theorem before1_2 (c : Dev nD) (t : Fin cfg1.N) (d) : (dat1 V c).before 2 t d = blk1 V c 2 t :=
  ((dat1 V c).before_in_eq_fetched 2 rfl (fun _ => rfl) (fun _ _ _ => rfl)
    (fun t => by dsimp only [dat1]; rfl) t d).trans rfl
theorem before1_3 (c : Dev nD) (t : Fin cfg1.N) (d) : (dat1 V c).before 3 t d = blk1 V c 3 t :=
  ((dat1 V c).before_in_eq_fetched 3 rfl (fun _ => rfl) (fun _ _ _ => rfl)
    (fun t => by dsimp only [dat1]; rfl) t d).trans rfl
theorem before1_4 (c : Dev nD) (t : Fin cfg1.N) (d) : (dat1 V c).before 4 t d = blk1 V c 4 t :=
  ((dat1 V c).before_in_eq_fetched 4 rfl (fun _ => rfl) (fun _ _ _ => rfl)
    (fun t => by dsimp only [dat1]; rfl) t d).trans rfl
theorem before1_5 (c : Dev nD) (t : Fin cfg1.N) (d) : (dat1 V c).before 5 t d = blk1 V c 5 t :=
  ((dat1 V c).before_in_eq_fetched 5 rfl (fun _ => rfl) (fun _ _ _ => rfl)
    (fun t => by dsimp only [dat1]; rfl) t d).trans rfl

/-- The window of which only a predicate is claimed: the output. -/
def loose1 (w : Fin cfg1.W) : Bool := decide (w.val = 6)

/-- Of the output: after every point but the first, its block is the point's. -/
def claim1 (c : Dev nD) (w : Fin cfg1.W) (t : Fin cfg1.N) (X : (cfg1.win w).block.Idx → Elt F (cfg1.win w).elt) : Prop :=
  t.val ≠ 0 → X = (dat1 V c).after w t

/-- The fused body meets its data. -/
theorem body1 (c : Dev nD) : BodyObligationRel (dat1 V c) (defs₀ (F := F)) Variants.none () Set.univ loose1 (claim1 V c) := fun t => by
  rw [bigSep_W1, bigSep_W1]
  simp only [show loose1 0 = false from rfl, show loose1 1 = false from rfl, show loose1 2 = false from rfl, show loose1 3 = false from rfl,
    show loose1 4 = false from rfl, show loose1 5 = false from rfl, show loose1 6 = true from rfl, show loose1 7 = false from rfl]
  rw [show (dat1 V c).Φ t.castSucc = inv1 V c t.val from rfl, show (dat1 V c).Φ t.succ = inv1 V c (t.val + 1) from rfl,
    show (dat1 V c).owesAt () t.succ = (dat1 V c).owesAt () t.castSucc from rfl]
  show _ ⊢ wp frame (wpE (defs₀ (F := F)) Variants.none (c : Thread nD τ) none) Set.univ (bodyAt1 t) _
  unfold inv1
  iintro ⟨⟨G0, G1, G2, G3, G4, G5, G6, G7, G8, ⟨%M, %hM, HM⟩, ⟨%p, %hp, Hp⟩⟩, Ho, ⟨%d0, H0⟩, ⟨%d1, H1⟩, ⟨%d2, H2⟩, ⟨%d3, H3⟩, ⟨%d4, H4⟩, ⟨%d5, H5⟩, ⟨%d6, -, H6⟩, ⟨%d7, H7⟩⟩
  rw [before1_0, before1_1, before1_2, before1_3, before1_4, before1_5]
  have hMin : memIn (cfg1.grid.coords t) M = memIn (cfg1.grid.coords t) (memAt V c t.val) := by
    by_cases ht : t.val = 0
    · unfold memIn; rw [if_pos (isFirst_zero t ht), if_pos (isFirst_zero t ht)]
    · rw [hM ht]
  iapply (fused_triple c Set.univ (cfg1.grid.coords t) _ _ _ _ _ _ _ _ _ _ _ _ _ _ _ _ _ _ _ _ (blk1 V c 0 t) (blk1 V c 1 t) (blk1 V c 2 t) (blk1 V c 3 t) (blk1 V c 4 t) (blk1 V c 5 t) M p _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HM]; · iexact HM
  isplitl [Hp]; · iexact Hp
  rw [hMin, ← memAt_succ, ← prevAt_succ]
  iintro ⟨H0, H1, H2, H3, H4, H5, H6, H7, HM, Hp⟩
  isplitl [G0 G1 G2 G3 G4 G5 G6 G7 G8 HM Hp]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [HM]
    · iexists _; isplitr
      swap; · iexact HM
      ipureintro; exact fun _ => rfl
    · iexists _; isplitr
      swap; · iexact Hp
      ipureintro; exact fun _ => rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    intro ht
    rw [hp ht]
    rfl
  iexact H7

end Cert.KernelIdeal.Body

end
-- ==== Proof.RunKernelIdeal.lean ====
/-
  The whole program's run: the host operations, the preparation call, the fused call and the host operations after it. At its end
  every argument is as launched, every semaphore counter is zero, and the two results hold what the proof data name.
-/
module

public import proofs.«01_k».proof.Proof.DataKernelIdeal
public import proofs.«01_k».proof.Proof.Gen.KernelIdeal.Regions
public import Idealize.ShloMosaic.Lib.Pipeline.ArrRel
public import Idealize.ShloMosaic.Lib.Pipeline.RegionArrays
public import Idealize.ShloMosaic.Lib.Pipeline.RegionsLoop

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

/-- The window whose contents are claimed by a predicate ends, where it is written back, at the contents that the exact data name:
    so the fused call's arrays end as its data say. -/
theorem arrays1 (V : (c : Dev nD) → (b : Ref sig .tc) → Buf (Elt F) ((c : Thread nD τ).loc b)) (c : Dev nD) :
    ((dat1 V c).toRRel loose1 (claim1 V c)).arraysAt cfg1.N ⊢ ((dat1 V c).arrays ((dat1 V c).arrAt · cfg1.N) : sProp 𝕄) := by
  have hfl : ∀ t : Fin cfg1.N, (cfg1.win 6).flush t = true → t.val ≠ 0 :=
    (by decide +kernel : ∀ t : Fin grid1.N, win1_6.flush t = true → t.val ≠ 0)
  have key : ∀ (w : Fin cfg1.W) (G), ((dat1 V c).toRRel loose1 (claim1 V c)).ArrAt w cfg1.N G → G = (dat1 V c).arrAt w cfg1.N := by
    intro w G hG
    cases hw : loose1 w
    · exact (dat1 V c).toR_arrAt w cfg1.N G (((dat1 V c).toR.override_arrAt (by simp only [hw]) cfg1.N G).mp hG)
    · obtain ⟨X, hX, hA⟩ := hG.exists_exact
      have h6 : w = (6 : Fin 8) := Fin.ext (of_decide_eq_true hw)
      subst h6
      exact hA (dat1 V c).after fun u hu hf => ((dat1 V c).toRRel_leaves hw (hX u hu hf) (hfl u hf)).symm
  unfold RDat.arraysAt Dat.arrays
  refine bigSep_mono fun w _ => ?_
  show iprop(∃ G, ⌜((dat1 V c).toRRel loose1 (claim1 V c)).ArrAt w cfg1.N G⌝
      ∗ (cfg1.win w).arr.view.loc (c.tc : Thread nD τ) ↦[(cfg1.win w).arr.view.set]{((dat1 V c).toRRel loose1 (claim1 V c)).share w} G)
    ⊢ ((cfg1.win w).arr.view.loc (c.tc : Thread nD τ) ↦[(cfg1.win w).arr.view.set]{(dat1 V c).share w} (dat1 V c).arrAt w cfg1.N : sProp 𝕄)
  iintro ⟨%G, %hG, H⟩
  rw [key w G hG]
  iexact H

variable (m : (ℓ : Loc nD τ sig) → Buf (Elt F) ℓ)

/-- The buffers when the preparation call is entered, -/
def U1 (c : Dev nD) (b : Ref sig .tc) : Buf (Elt F) ((c : Thread nD τ).loc b) := V1 m c b
/-- after it, -/
def U2v (c : Dev nD) : Valuation τ sig (Elt F) :=
  Function.update (Function.update (Function.update (V1 m c) main_call0_v7_0 ((dat0 (U1 m) c).arrAt 6 cfg0.N))
    main_call0_v7_1 ((dat0 (U1 m) c).arrAt 7 cfg0.N)) main_call0_v7_2 ((dat0 (U1 m) c).arrAt 8 cfg0.N)
def U2 (c : Dev nD) (b : Ref sig .tc) : Buf (Elt F) ((c : Thread nD τ).loc b) := U2v m c b
/-- and after the fused call. -/
def U3v (c : Dev nD) : Valuation τ sig (Elt F) :=
  Function.update (Function.update (U2v m c) main_call0_v8_0 ((dat1 (U2 m) c).arrAt 6 cfg1.N))
    main_call0_v8_1 ((dat1 (U2 m) c).arrAt 7 cfg1.N)
def U3 (c : Dev nD) (b : Ref sig .tc) : Buf (Elt F) ((c : Thread nD τ).loc b) := U3v m c b

/-- What the calls leave in the buffers that they may change. -/
def outs : Outs (F := F) := fun J r c => if J = 2 then U2 m c r else U3 m c r

theorem V2_eq (c : Dev nD) : V2 m (outs m) c = U2v m c := by
  have n01 : (Proc.devRef .tc main_call0_v7_0 : DevRef τ sig) ≠ Proc.devRef .tc main_call0_v7_1 := StableHlo.devRef_ne_of_ne (by decide)
  have n02 : (Proc.devRef .tc main_call0_v7_0 : DevRef τ sig) ≠ Proc.devRef .tc main_call0_v7_2 := StableHlo.devRef_ne_of_ne (by decide)
  have n12 : (Proc.devRef .tc main_call0_v7_1 : DevRef τ sig) ≠ Proc.devRef .tc main_call0_v7_2 := StableHlo.devRef_ne_of_ne (by decide)
  have h0 : outs m 2 main_call0_v7_0 c = (dat0 (U1 m) c).arrAt 6 cfg0.N := by
    unfold outs; rw [if_pos rfl]; unfold U2 U2v
    rw [Function.update_of_ne n02, Function.update_of_ne n01, Function.update_self]
  have h1 : outs m 2 main_call0_v7_1 c = (dat0 (U1 m) c).arrAt 7 cfg0.N := by
    unfold outs; rw [if_pos rfl]; unfold U2 U2v
    rw [Function.update_of_ne n12, Function.update_self]
  have h2 : outs m 2 main_call0_v7_2 c = (dat0 (U1 m) c).arrAt 8 cfg0.N := by
    unfold outs; rw [if_pos rfl]; unfold U2 U2v
    rw [Function.update_self]
  unfold V2 U2v
  rw [h0, h1, h2]

theorem V3_eq (c : Dev nD) : V3 m (outs m) c = U3v m c := by
  have n01 : (Proc.devRef .tc main_call0_v8_0 : DevRef τ sig) ≠ Proc.devRef .tc main_call0_v8_1 := StableHlo.devRef_ne_of_ne (by decide)
  have h0 : outs m 3 main_call0_v8_0 c = (dat1 (U2 m) c).arrAt 6 cfg1.N := by
    unfold outs; rw [if_neg (by decide)]; unfold U3 U3v
    rw [Function.update_of_ne n01, Function.update_self]
  have h1 : outs m 3 main_call0_v8_1 c = (dat1 (U2 m) c).arrAt 7 cfg1.N := by
    unfold outs; rw [if_neg (by decide)]; unfold U3 U3v
    rw [Function.update_self]
  unfold V3 U3v
  rw [h0, h1, V2_eq]

/-- The exact data of both calls, -/
def pdats : (p : Fin 2) → (c : Dev nD) → Dat τ (Elt F) Unit ℕ (UR sig nD τ) ℕ (cfgs p) c
  | ⟨0, _⟩ => fun c => dat0 (U1 m) c
  | ⟨1, _⟩ => fun c => dat1 (U2 m) c

/-- and what is claimed of them. -/
def rdats : (p : Fin 2) → (c : Dev nD) → RDat τ (Elt F) Unit ℕ (UR sig nD τ) ℕ (cfgs p) c
  | ⟨0, _⟩ => fun c => (dat0 (U1 m) c).toR
  | ⟨1, _⟩ => fun c => (dat1 (U2 m) c).toRRel loose1 (claim1 (U2 m) c)

abbrev L : GSem nD τ sig → Finset Unit := fun _ => ∅
abbrev lv : GSem nD τ sig → Unit → ℕ := fun _ _ => 0
/-- What rides beside the buffers: the core owes nothing. -/
abbrev rest (c : Dev nD) : sProp 𝕄 := iprop(∃ W, owes (c : Thread nD τ) (0 : CellTallies nD τ sig Unit) W)

theorem U2_of (c : Dev nD) (r : Ref sig .tc) (h : r ∉ ([main_call0_v7_0, main_call0_v7_1, main_call0_v7_2] : List (Ref sig .tc))) : U2 m c r = U1 m c r := by
  have := V2_of m (outs m) c r h
  rw [V2_eq] at this
  exact this
theorem U3_of (c : Dev nD) (r : Ref sig .tc) (h : r ∉ ([main_call0_v8_0, main_call0_v8_1] : List (Ref sig .tc))) : U3 m c r = U2 m c r := by
  have := V3_of m (outs m) c r h
  rw [V3_eq, V2_eq] at this
  exact this

theorem U2_v7_0 (c : Dev nD) : U2 m c main_call0_v7_0 = (dat0 (U1 m) c).arrAt 6 cfg0.N := by
  unfold U2 U2v
  rw [Function.update_of_ne (StableHlo.devRef_ne_of_ne (by decide)), Function.update_of_ne (StableHlo.devRef_ne_of_ne (by decide)), Function.update_self]
theorem U2_v7_1 (c : Dev nD) : U2 m c main_call0_v7_1 = (dat0 (U1 m) c).arrAt 7 cfg0.N := by
  unfold U2 U2v
  rw [Function.update_of_ne (StableHlo.devRef_ne_of_ne (by decide)), Function.update_self]
theorem U2_v7_2 (c : Dev nD) : U2 m c main_call0_v7_2 = (dat0 (U1 m) c).arrAt 8 cfg0.N := by
  unfold U2 U2v
  rw [Function.update_self]
theorem U3_v8_0 (c : Dev nD) : U3 m c main_call0_v8_0 = (dat1 (U2 m) c).arrAt 6 cfg1.N := by
  unfold U3 U3v
  rw [Function.update_of_ne (StableHlo.devRef_ne_of_ne (by decide)), Function.update_self]
theorem U3_v8_1 (c : Dev nD) : U3 m c main_call0_v8_1 = (dat1 (U2 m) c).arrAt 7 cfg1.N := by
  unfold U3 U3v
  rw [Function.update_self]

/-- After call 0 every array of it holds what the next contents say, -/
theorem ends0 (c : Dev nD) : ∀ w : Fin cfg0.W, (dat0 (U1 m) c).arrAt w cfg0.N = U2 m c (Pipeline.arrRef spec0 w) := by
  intro w
  fin_cases w
  · exact ((dat0 (U1 m) c).arrAt_in 0 rfl _).trans (U2_of m c main_arg5 (by decide)).symm
  · exact ((dat0 (U1 m) c).arrAt_in 1 rfl _).trans (U2_of m c main_arg4 (by decide)).symm
  · exact ((dat0 (U1 m) c).arrAt_in 2 rfl _).trans (U2_of m c main_arg1 (by decide)).symm
  · exact ((dat0 (U1 m) c).arrAt_in 3 rfl _).trans (U2_of m c main_arg2 (by decide)).symm
  · exact ((dat0 (U1 m) c).arrAt_in 4 rfl _).trans (U2_of m c main_call0_v6 (by decide)).symm
  · exact ((dat0 (U1 m) c).arrAt_in 5 rfl _).trans (U2_of m c main_arg6 (by decide)).symm
  · exact (U2_v7_0 m c).symm
  · exact (U2_v7_1 m c).symm
  · exact (U2_v7_2 m c).symm
/-- and the other buffers hold what they held. -/
theorem off0 (c : Dev nD) (b : Ref sig .tc) (hb : b ∉ Finset.univ.image (Pipeline.arrRef spec0)) : U2 m c b = U1 m c b := by
  refine U2_of m c b fun h => ?_
  simp only [List.mem_cons, List.not_mem_nil, _root_.or_false] at h
  rcases h with rfl | rfl | rfl
  · exact hb (Finset.mem_image.mpr ⟨6, Finset.mem_univ _, rfl⟩)
  · exact hb (Finset.mem_image.mpr ⟨7, Finset.mem_univ _, rfl⟩)
  · exact hb (Finset.mem_image.mpr ⟨8, Finset.mem_univ _, rfl⟩)

/-- After call 1 every array of it holds what the next contents say, -/
theorem ends1 (c : Dev nD) : ∀ w : Fin cfg1.W, (dat1 (U2 m) c).arrAt w cfg1.N = U3 m c (Pipeline.arrRef spec1 w) := by
  intro w
  fin_cases w
  · exact ((dat1 (U2 m) c).arrAt_in 0 rfl _).trans (U3_of m c main_call0_v0 (by decide)).symm
  · exact ((dat1 (U2 m) c).arrAt_in 1 rfl _).trans (U3_of m c main_call0_v7_0 (by decide)).symm
  · exact ((dat1 (U2 m) c).arrAt_in 2 rfl _).trans (U3_of m c main_call0_v7_1 (by decide)).symm
  · exact ((dat1 (U2 m) c).arrAt_in 3 rfl _).trans (U3_of m c main_call0_v7_2 (by decide)).symm
  · exact ((dat1 (U2 m) c).arrAt_in 4 rfl _).trans (U3_of m c main_call0_v3 (by decide)).symm
  · exact ((dat1 (U2 m) c).arrAt_in 5 rfl _).trans (U3_of m c main_call0_v5 (by decide)).symm
  · exact (U3_v8_0 m c).symm
  · exact (U3_v8_1 m c).symm
/-- and the other buffers hold what they held. -/
theorem off1 (c : Dev nD) (b : Ref sig .tc) (hb : b ∉ Finset.univ.image (Pipeline.arrRef spec1)) : U3 m c b = U2 m c b := by
  refine U3_of m c b fun h => ?_
  simp only [List.mem_cons, List.not_mem_nil, _root_.or_false] at h
  rcases h with rfl | rfl
  · exact hb (Finset.mem_image.mpr ⟨6, Finset.mem_univ _, rfl⟩)
  · exact hb (Finset.mem_image.mpr ⟨7, Finset.mem_univ _, rfl⟩)

set_option backward.isDefEq.respectTransparency.types false in
/-- The preparation call as a segment of the program. -/
def reg0 : Pipeline.RDat.RegionSeg (pcfgs (F := F)) adm (rdats m) () defs₀ Variants.none L lv 0 where
  win := launch0.win.to₀
  block_pos := launch0.block_pos
  stage_whole := launch0.stage_whole
  K := PEmpty
  osem k := k.elim
  ho := Pipeline.OwnSemFacts.none _
  hbody c := (body0 (U1 m) c).loose.toR
  hwaits := Pipeline.RDat.hwaits_of_owed_zero _ _ _ _ L lv 0 fun _ _ => rfl
  pre c := iprop(StableHlo.held (c : Thread nD τ) (Pipeline.ucRefs τ sig) (V1 m c) ∗ rest c)
  post c := iprop(StableHlo.held (c : Thread nD τ) (Pipeline.ucRefs τ sig) (U2v m c) ∗ rest c)
  X _ := BI.emp
  Y _ := BI.emp
  Z c := Pipeline.unscopedRest (Ix := Unit) (Name := ℕ) (U := UR sig nD τ) (Lvl := ℕ) spec0 c (U1 m c)
  hentry c := by
    rw [Pipeline.ownSems0_none, show StableHlo.held (c : Thread nD τ) (Pipeline.ucRefs τ sig) (V1 m c) = unscopedBufs c (U1 m c) from (Pipeline.unscopedBufs_held c _).symm]
    have hsplit := Pipeline.RDat.arrays_of_unscopedBufs (p := 0) (pcfgs (F := F)) adm (rdats m) launch0.win launch0.arr_whole c
      ((dat0 (U1 m) c).share_full fun _ => rfl) (U1 m c) (fun w => dat0_A (U1 m) c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    show _ ⊢ Pipeline.scopedRest spec0 c
    iintro ⟨-, -, Hr⟩; iexact Hr
  hout c := by
    rw [Pipeline.ownSems0_none]
    show Pipeline.scopedRest spec0 c ⊢ _
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (U1 m c) (U2 m c) ((dat0 (U1 m) c).arrAt · cfg0.N)
      (ends0 m c) (off0 m c)
    rw [show StableHlo.held (c : Thread nD τ) (Pipeline.ucRefs τ sig) (U2v m c) = unscopedBufs c (U2 m c) from (Pipeline.unscopedBufs_held c _).symm]
    refine (sep_mono ((dat0 (U1 m) c).toR_arraysAt_post cfg0.N) .rfl).trans ?_
    iintro ⟨Ha, HO, -, Hrest⟩
    imodintro
    isplitl [Ha Hrest]
    · iapply hjoin; isplitl [Ha]
      · iexact Ha
      · iexact Hrest
    unfold RDat.owesAt Pipeline.owesWithin
    icases HO with ⟨%W, -, HO⟩; iexists W; iexact HO

set_option backward.isDefEq.respectTransparency.types false in
/-- The fused call as a segment of the program. -/
def reg1 : Pipeline.RDat.RegionSeg (pcfgs (F := F)) adm (rdats m) () defs₀ Variants.none L lv 1 where
  win := launch1.win.to₀
  block_pos := launch1.block_pos
  stage_whole := launch1.stage_whole
  K := PEmpty
  osem k := k.elim
  ho := Pipeline.OwnSemFacts.none _
  hbody c := (body1 (U2 m) c).toRRel
  hwaits := Pipeline.RDat.hwaits_of_owed_zero _ _ _ _ L lv 1 fun _ _ => rfl
  pre c := iprop(StableHlo.held (c : Thread nD τ) (Pipeline.ucRefs τ sig) (U2v m c) ∗ rest c)
  post c := iprop(StableHlo.held (c : Thread nD τ) (Pipeline.ucRefs τ sig) (U3v m c) ∗ rest c)
  X _ := BI.emp
  Y _ := BI.emp
  Z c := Pipeline.unscopedRest (Ix := Unit) (Name := ℕ) (U := UR sig nD τ) (Lvl := ℕ) spec1 c (U2 m c)
  hentry c := by
    rw [Pipeline.ownSems0_none, show StableHlo.held (c : Thread nD τ) (Pipeline.ucRefs τ sig) (U2v m c) = unscopedBufs c (U2 m c) from (Pipeline.unscopedBufs_held c _).symm]
    have hsplit := Pipeline.RDat.arrays_of_unscopedBufs (p := 1) (pcfgs (F := F)) adm (rdats m) launch1.win launch1.arr_whole c
      ((dat1 (U2 m) c).share_full fun _ => rfl) (U2 m c) (fun w => dat1_A (U2 m) c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    show _ ⊢ inv1 (U2 m) c 0
    rw [show Pipeline.scopedRest (Ix := Unit) (Name := ℕ) (U := UR sig nD τ) (Lvl := ℕ) (Val := Elt F) (pcfgs (F := F) 1).spec c = Pipeline.scopedRest spec1 c from rfl, scopedRest1_eq]
    unfold inv1
    simp only [owns_whole]
    iintro ⟨-, -, G0, G1, G2, G3, G4, G5, G6, G7, G8, ⟨%M, HM⟩, ⟨%p, Hp⟩⟩
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [HM]
    · iexists M; isplitr
      · ipureintro; exact fun h => absurd rfl h
      iexact HM
    · iexists p; isplitr
      · ipureintro; exact fun h => absurd rfl h
      iexact Hp
  hout c := by
    rw [Pipeline.ownSems0_none]
    show inv1 (U2 m) c cfg1.N ⊢ _
    rw [show Pipeline.scopedRest (Ix := Unit) (Name := ℕ) (U := UR sig nD τ) (Lvl := ℕ) (Val := Elt F) (pcfgs (F := F) 1).spec c = Pipeline.scopedRest spec1 c from rfl, scopedRest1_eq]
    unfold inv1
    simp only [owns_whole]
    iintro ⟨G0, G1, G2, G3, G4, G5, G6, G7, G8, ⟨%M, -, HM⟩, ⟨%p, -, Hp⟩⟩
    isplitr; · iempintro
    isplitr; · iempintro
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [HM]
    · iexists M; iexact HM
    · iexists p; iexact Hp
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (U2 m c) (U3 m c) ((dat1 (U2 m) c).arrAt · cfg1.N)
      (ends1 m c) (off1 m c)
    rw [show StableHlo.held (c : Thread nD τ) (Pipeline.ucRefs τ sig) (U3v m c) = unscopedBufs c (U3 m c) from (Pipeline.unscopedBufs_held c _).symm]
    refine (sep_mono (arrays1 (U2 m) c) .rfl).trans ?_
    iintro ⟨Ha, HO, -, Hrest⟩
    imodintro
    isplitl [Ha Hrest]
    · iapply hjoin; isplitl [Ha]
      · iexact Ha
      · iexact Hrest
    unfold RDat.owesAt Pipeline.owesWithin
    icases HO with ⟨%W, -, HO⟩; iexists W; iexact HO

end Cert.KernelIdeal.Body

end
-- ==== Proof.EndKernelIdeal.lean ====
/-
  The program run from a launch to its end: it terminates, every argument is as launched, every semaphore counter is zero, and the
  two results hold what the last contents say.
-/
module

public import proofs.«01_k».proof.Proof.RunKernelIdeal

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ)

/-- The program as four segments: host operations, the two calls, host operations. -/
abbrev parts (c : Dev nD) : List (Pipeline.RDat.Seg (pcfgs (F := F)) adm (rdats m) () defs₀ Variants.none L lv) :=
  [.host (seg0 m Variants.none L lv fun _ c => rest c), .region (reg0 m), .region (reg1 m),
    .host (seg3 m (outs m) Variants.none L lv fun _ c => rest c)]

/-- What the end says of a core's memory. -/
def AtEnd (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7))
    ∧ s.mem ((c.tc : Thread nD τ).loc main_v0_0) = V4 m (outs m) c main_v0_0
    ∧ s.mem ((c.tc : Thread nD τ).loc main_v0_1) = V4 m (outs m) c main_v0_1

set_option backward.isDefEq.respectTransparency.types false in
/-- From any memory with zero counters the program terminates, and every final state is as `AtEnd` says with zero counters. -/
theorem run (ρ : Dev nD → PrngReg) :
    θ_run defs (onTc (τ := τ) (main (F := F))) ⟨m, fun _ => 0, ρ⟩ (fun r => (∀ c : Dev nD, AtEnd m c r.2) ∧ r.2.sem = fun _ => 0) := by
  refine Pipeline.RDat.θ_run_regions_kit_dev_sems (pcfgs (F := F)) adm (rdats m) () cellOf_inj
    (emb₁ (A := UR sig nD τ)) defs₀ Variants.none L lv m ρ main (parts m)
    (fun c Q => by
      rewrite [main_chain c, Pipeline.RDat.Seg.run_eq_chain,
        show (parts m c).map Pipeline.RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [parts, Pipeline.RDat.Seg.pipes_host, Pipeline.RDat.Seg.pipes_region, Pipeline.RDat.Seg.pipes_nil]; decide)
    0 (fun _ _ => rfl) (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V4 m (outs m) c))
    (hch := fun c => ⟨.rfl, .rfl, .rfl, ?_, .rfl⟩)
    (hinit := ?_) (QY := AtEnd m) (hfin := fun c s' => ?_)
    (hQ := fun _ h hz => ⟨h, funext fun g => hz g (.inr (regions_no_unscoped g.2))⟩)
  · -- the pipelines' own resources at the launch
    show (ownU (initOf (Pipeline.cells cfgs cellOf_inj) (Pipeline.launchToks cfgs cellOf_inj)) : sProp 𝕄)
      ⊢ |={Set.univ}=> iprop(ownU (initOf (Pipeline.cells cfgs cellOf_inj) (Pipeline.launchToks cfgs cellOf_inj))
        ∗ bigSep Finset.univ (fun _ : Dev nD => (BI.emp : sProp 𝕄)))
    iintro HP
    imodintro
    isplitl [HP]; · iexact HP
    iapply (show (BI.emp : sProp 𝕄) ⊢ bigSep Finset.univ (fun _ : Dev nD => (BI.emp : sProp 𝕄)) from by rw [BI.bigSep_emp_const])
    iempintro
  · -- the fused call ends where the last host operations start
    show iprop(StableHlo.held (c : Thread nD τ) (Pipeline.ucRefs τ sig) (U3v m c) ∗ rest c)
      ⊢ iprop(StableHlo.held (c : Thread nD τ) (Pipeline.ucRefs τ sig) (V3 m (outs m) c) ∗ rest c)
    rw [V3_eq]
  · -- the launch: the buffers as launched, nothing owed
    refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · -- the end: the arguments and the results read off the last contents
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c)⟩,
        h (Proc.devRef .tc main_v0_0) (Finset.mem_filter.mpr ⟨StableHlo.devRef_mem_tcRefs main_v0_0, by decide⟩),
        h (Proc.devRef .tc main_v0_1) (Finset.mem_filter.mpr ⟨StableHlo.devRef_mem_tcRefs main_v0_1, by decide⟩)⟩
    · iexact HSI

/-- The same without the results: the arguments end as launched and the counters are zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).1, h.2⟩) (run m ρ)

end Cert.KernelIdeal.Body

end
-- ==== Proof.Frames.lean ====
/-
  The claims about single programs: each program ends with its arguments as launched and with every semaphore counter at zero, and
  the kernel's named constants are read, over the extended reals, as the numbers given for them.
-/
module

public import proofs.«01_k».proof.Defs
public import proofs.«01_k».proof.Proof.EndKernel
public import proofs.«01_k».proof.Proof.EndKernelIdeal
public import proofs.«01_k».proof.Proof.Gen.ReferenceIdeal
public import proofs.«01_k».proof.Proof.Gen.Pre_finite
public import Idealize.ShloMosaic.Lib.Claim

@[expose] public section

set_option maxRecDepth 16384

noncomputable section

namespace Cert.Proof

open Idealize.ShloMosaic Idealize.SL.Sem

/-- The kernel as printed ends with its arguments as launched. -/
theorem frame_Kernel : Cert.quiescent_Kernel (hKernel := Cert.Kernel.Gen.facts) :=
  fun m g _ => Cert.Kernel.Body.frame m g

/-- The kernel over the extended reals ends with its arguments as launched. -/
theorem frame_KernelIdeal : Cert.quiescent_KernelIdeal (hKernelIdeal := Cert.KernelIdeal.Gen.facts) :=
  fun m g _ => Cert.KernelIdeal.Body.frame m g

/-- The same under the precondition of the value claim. -/
theorem frame_KernelIdeal_finite : Cert.quiescent_KernelIdeal_pre_finite (hKernelIdeal := Cert.KernelIdeal.Gen.facts)
    (hPre_finite := Cert.Pre_finite.Gen.facts) :=
  fun m g _ => Cert.KernelIdeal.Body.frame m g

set_option maxHeartbeats 1600000 in
/-- The reference over the extended reals ends with its arguments as launched. -/
theorem frame_ReferenceIdeal : Cert.quiescent_ReferenceIdeal (hReferenceIdeal := Cert.ReferenceIdeal.Gen.facts) := by
  intro m g _
  hlo_run
  · exact fun _ => ⟨trivial, trivial, trivial, trivial, trivial, trivial, trivial, trivial⟩
  · exact sem_eq_zero_of_no_sems (by decide) _

/-- The same under the precondition of the value claim. -/
theorem frame_ReferenceIdeal_finite : Cert.quiescent_ReferenceIdeal_pre_finite (hReferenceIdeal := Cert.ReferenceIdeal.Gen.facts)
    (hPre_finite := Cert.Pre_finite.Gen.facts) :=
  fun m g _ => frame_ReferenceIdeal m g trivial

/-- The named constants of the kernel are read as the numbers given for them: 1/√128, and −∞ for the mask. -/
theorem preserves_Kernel : Cert.preserves_Kernel_KernelIdeal :=
  ⟨IdealRules.named_const.statement Cert.KernelIdeal.κ "inv_rt_hd" .f32 0x3DB504F3#32 (((Real.sqrt 128)⁻¹ : ℝ) : EReal) rfl,
    IdealRules.named_const.statement Cert.KernelIdeal.κ "mask" .f32 0xF149F2CA#32 ⊥ rfl⟩

end Cert.Proof

end
-- ==== Proof.Spec.lean ====
module

public import Idealize.ShloMosaic.Lib.Claim
public import Idealize.ShloMosaic.Lib.Pipeline.ValueKit
public import Idealize.ShloMosaic.Lib.Pointwise

@[expose] public section

set_option maxRecDepth 16384

noncomputable section

/-! The segmented memory over the real numbers: what both programs compute, written plainly, and the
facts about sums and softmaxes that the two sides share. -/

namespace Cert.Spec

open Idealize.ShloMosaic

/-- The eight arguments as tables of real numbers. -/
structure In where
  X : Fin 4 → Fin 4096 → Fin 1024 → ℝ
  Q : Fin 8 → Fin 1024 → ℝ
  Rq : Fin 1024 → Fin 1024 → ℝ
  Rkv : Fin 2048 → Fin 1024 → ℝ
  Wq : Fin 1024 → Fin 1024 → ℝ
  Wk : Fin 1024 → Fin 1024 → ℝ
  Wv : Fin 1024 → Fin 1024 → ℝ
  wm : Fin 1024 → ℝ

/-- Token `l` of segment `s`. -/
def tok (s : Fin 8) (l : Fin 512) : Fin 4096 := ⟨512 * s.val + l.val, by omega⟩
/-- Feature `e` of head `h`. -/
def feat (h : Fin 8) (e : Fin 128) : Fin 1024 := ⟨128 * h.val + e.val, by omega⟩
/-- The head of feature `d`. -/
def head (d : Fin 1024) : Fin 8 := ⟨d.val / 128, by omega⟩
/-- The segment of token `t`. -/
def segOf (t : Fin 4096) : Fin 8 := ⟨t.val / 512, by omega⟩

/-- A softmax over the places where `p` holds; zero elsewhere. -/
def smax {ι : Type} [Fintype ι] (p : ι → Prop) [DecidablePred p] (r : ι → ℝ) (i : ι) : ℝ :=
  if p i then Real.exp (r i) / ∑ j, (if p j then Real.exp (r j) else 0) else 0

variable (a : In)

/-- The write query of slot `s` at feature `d`. -/
def qw (s : Fin 8) (d : Fin 1024) : ℝ := ∑ e, a.Q s e * a.Wq d e
/-- The write key of a token. -/
def key (b : Fin 4) (t : Fin 4096) (d : Fin 1024) : ℝ := ∑ i, a.X b t i * a.Wk d i
/-- The write value of a token. -/
def val (b : Fin 4) (t : Fin 4096) (d : Fin 1024) : ℝ := ∑ i, a.X b t i * a.Wv d i
/-- The write score of token `l` of segment `s` at head `h`. -/
def score (b : Fin 4) (s h : Fin 8) (l : Fin 512) : ℝ :=
  (∑ e, qw a s (feat h e) * key a b (tok s l) (feat h e)) / Real.sqrt 128
/-- The write attention. -/
def wattn (b : Fin 4) (s h : Fin 8) (l : Fin 512) : ℝ := smax (fun _ => True) (score a b s h) l
/-- The slots before the write vector and the norm. -/
def mem (b : Fin 4) (s : Fin 8) (d : Fin 1024) : ℝ := ∑ l, wattn a b s (head d) l * val a b (tok s l) d
/-- The slots times the write vector. -/
def raw (b : Fin 4) (s : Fin 8) (d : Fin 1024) : ℝ := mem a b s d * a.wm d
/-- The number that is added to the mean square. -/
def eps : ℝ := (Ideal.ofBits .f32 0x358637BD#32).toReal
/-- The memory after its norm. -/
def memory (b : Fin 4) (s : Fin 8) (d : Fin 1024) : ℝ :=
  raw a b s d * (Real.sqrt ((∑ e, raw a b s e * raw a b s e) / 1024 + eps))⁻¹
/-- The read query of a token. -/
def rq (b : Fin 4) (t : Fin 4096) (d : Fin 1024) : ℝ := ∑ i, a.X b t i * a.Rq d i
/-- A row of the read projection of the memory: keys below 1024, values from there. -/
def rkv (b : Fin 4) (s : Fin 8) (d : Fin 2048) : ℝ := ∑ j, memory a b s j * a.Rkv d j
/-- The row of the read projection that holds key `d`. -/
def lo (d : Fin 1024) : Fin 2048 := ⟨d.val, by omega⟩
/-- The row of the read projection that holds value `d`. -/
def hi (d : Fin 1024) : Fin 2048 := ⟨1024 + d.val, by omega⟩
/-- The read score of slot `s`. -/
def rs (b : Fin 4) (t : Fin 4096) (s : Fin 8) : ℝ := (∑ d, rq a b t d * rkv a b s (lo d)) / 32
/-- The read attention: a token reads its own segment's slot and the later ones. -/
def rattn (b : Fin 4) (t : Fin 4096) (s : Fin 8) : ℝ := smax (fun s' : Fin 8 => t.val / 512 ≤ s'.val) (rs a b t) s
/-- The read value. -/
def out (b : Fin 4) (t : Fin 4096) (d : Fin 1024) : ℝ := ∑ s, rattn a b t s * rkv a b s (hi d)
/-- The result. -/
def res (b : Fin 4) (t : Fin 4096) (d : Fin 1024) : ℝ := out a b t d * (1 / (1 + Real.exp (-(out a b t d))))

/-! ### Sums and softmaxes -/

/-- A finite sum of reals is the same in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A dot product of reals is the same in the extended reals. -/
theorem coe_dot {ι : Type} [Fintype ι] (f g : ι → ℝ) : (∑ i, (f i : EReal) * (g i : EReal)) = ((∑ i, f i * g i : ℝ) : EReal) := by
  rw [coe_sum]; exact Finset.sum_congr rfl fun i _ => (EReal.coe_mul _ _).symm

/-- Division by a real that is not zero. -/
theorem div_real (x y : ℝ) (h : y ≠ 0) : Ideal.div (x : EReal) (y : EReal) = ((x / y : ℝ) : EReal) := by
  rw [Ideal.div_coe h, ← EReal.coe_mul, mul_one_div]

/-- The maximum of a masked row that has an open place, and the exponentials after it is subtracted. -/
theorem soft {ι : Type} [Fintype ι] (p : ι → Prop) [DecidablePred p] (r : ι → ℝ) (hp : ∃ i, p i) (z : ι → EReal)
    (hz : ∀ i, z i = if p i then (r i : EReal) else ⊥) :
    ∃ m : ℝ, Finset.univ.fold max ⊥ z = (m : EReal) ∧ 1 ≤ ∑ i, (if p i then Real.exp (r i - m) else 0) ∧
      ∀ i, Ideal.exp (z i - (m : EReal)) = ((if p i then Real.exp (r i - m) else 0 : ℝ) : EReal) := by
  classical
  obtain ⟨i0, h0⟩ := hp
  obtain ⟨i1, h1, hmax⟩ := (Finset.univ.filter p).exists_max_image r ⟨i0, by simp [h0]⟩
  have hp1 : p i1 := (Finset.mem_filter.mp h1).2
  refine ⟨r i1, ?_, ?_, ?_⟩
  · apply le_antisymm
    · rw [Finset.fold_max_le]
      refine ⟨bot_le, fun i _ => ?_⟩
      rw [hz i]
      by_cases h : p i
      · rw [if_pos h]; exact_mod_cast hmax i (by simp [h])
      · rw [if_neg h]; exact bot_le
    · rw [Finset.le_fold_max]
      refine Or.inr ⟨i1, Finset.mem_univ _, ?_⟩
      rw [hz i1, if_pos hp1]
  · calc (1 : ℝ) = (if p i1 then Real.exp (r i1 - r i1) else 0) := by rw [if_pos hp1, sub_self, Real.exp_zero]
      _ ≤ _ := Finset.single_le_sum (f := fun i => if p i then Real.exp (r i - r i1) else 0)
        (fun i _ => by show (0 : ℝ) ≤ ite _ _ _; split <;> positivity) (Finset.mem_univ i1)
  · intro i
    rw [hz i]
    by_cases h : p i
    · rw [if_pos h, if_pos h, ← EReal.coe_sub, Ideal.exp_coe]
    · rw [if_neg h, if_neg h]
      have : (⊥ : EReal) - (r i1 : EReal) = ⊥ := by
        rw [sub_eq_add_neg]; exact EReal.bot_add _
      rw [this]; simp

/-- The quotient does not depend on what was subtracted. -/
theorem smax_shift {ι : Type} [Fintype ι] (p : ι → Prop) [DecidablePred p] (r : ι → ℝ) (m : ℝ) (i : ι) :
    (if p i then Real.exp (r i - m) else 0) / ∑ j, (if p j then Real.exp (r j - m) else 0) = smax p r i := by
  unfold smax
  have hs : ∑ j, (if p j then Real.exp (r j - m) else 0) = (∑ j, (if p j then Real.exp (r j) else 0)) / Real.exp m := by
    rw [Finset.sum_div]
    refine Finset.sum_congr rfl fun j _ => ?_
    split
    · rw [Real.exp_sub]
    · rw [zero_div]
  rw [hs]
  split
  · rw [Real.exp_sub, div_div_div_cancel_right₀ (Real.exp_pos m).ne']
  · rw [zero_div]

/-- The quotient of a softmax whose denominator starts from zero. -/
theorem soft_quot {ι : Type} [Fintype ι] (p : ι → Prop) [DecidablePred p] (r : ι → ℝ) (m : ℝ) (i : ι)
    (hs : 1 ≤ ∑ i, (if p i then Real.exp (r i - m) else 0)) :
    Ideal.div ((if p i then Real.exp (r i - m) else 0 : ℝ) : EReal) (0 + ((∑ j, (if p j then Real.exp (r j - m) else 0) : ℝ) : EReal))
      = ((smax p r i : ℝ) : EReal) := by
  rw [zero_add, div_real _ _ (by linarith), smax_shift]

/-- A sum over the features of one head. -/
theorem sum_head (h : Fin 8) (f : Fin 1024 → ℝ) :
    ∑ d : Fin 1024, (if d.val / 128 = h.val then f d else 0) = ∑ e : Fin 128, f (feat h e) := by
  rw [← Finset.sum_filter]
  refine Finset.sum_nbij' (fun d => ⟨d.val % 128, by omega⟩) (fun e => feat h e) ?_ ?_ ?_ ?_ ?_
  · intro d _; exact Finset.mem_univ _
  · intro e _; simp only [Finset.mem_filter, Finset.mem_univ, true_and, feat]; omega
  · intro d hd; simp only [Finset.mem_filter, Finset.mem_univ, true_and] at hd; apply Fin.ext; simp only [feat]; omega
  · intro e _; apply Fin.ext; simp only [feat]; omega
  · intro d hd; simp only [Finset.mem_filter, Finset.mem_univ, true_and] at hd
    congr 1; apply Fin.ext; simp only [feat]; omega

/-- A sum over the rows of one segment of a half. -/
theorem sum_seg (k : Fin 4) (f : Fin 2048 → ℝ) :
    ∑ d : Fin 2048, (if d.val / 512 = k.val then f d else 0) = ∑ e : Fin 512, f ⟨512 * k.val + e.val, by omega⟩ := by
  rw [← Finset.sum_filter]
  refine Finset.sum_nbij' (fun d => ⟨d.val % 512, by omega⟩) (fun e => ⟨512 * k.val + e.val, by omega⟩) ?_ ?_ ?_ ?_ ?_
  · intro d _; exact Finset.mem_univ _
  · intro e _; simp only [Finset.mem_filter, Finset.mem_univ, true_and]; omega
  · intro d hd; simp only [Finset.mem_filter, Finset.mem_univ, true_and] at hd; apply Fin.ext; dsimp only; omega
  · intro e _; apply Fin.ext; dsimp only; omega
  · intro d hd; simp only [Finset.mem_filter, Finset.mem_univ, true_and] at hd
    congr 1; apply Fin.ext; dsimp only; omega

/-! ### The kernel's order of the products -/

/-- The column of the write scores that holds slot `s` at head `h`. -/
def col (h s : Fin 8) : Fin 64 := ⟨8 * h.val + s.val, by omega⟩

/-- The folded write query: slot `c % 8` on the features of head `c / 8`. -/
def gq (d : Fin 1024) (c : Fin 64) : ℝ :=
  if d.val / 128 = c.val / 8 then qw a ⟨c.val % 8, by omega⟩ d * (Real.sqrt 128)⁻¹ else 0
/-- The folded write projection. -/
def wsc (i : Fin 1024) (c : Fin 64) : ℝ := ∑ d, a.Wk d i * gq a d c
/-- The folded read projection. -/
def wqk (i j : Fin 1024) : ℝ := ∑ d, a.Rq d i * a.Rkv (lo d) j

/-- The folded projection gives the write scores. -/
theorem fold_score (b : Fin 4) (s h : Fin 8) (l : Fin 512) :
    ∑ i, a.X b (tok s l) i * wsc a i (col h s) = score a b s h l := by
  have e1 : ∀ i, a.X b (tok s l) i * wsc a i (col h s)
      = ∑ d : Fin 1024, (if d.val / 128 = h.val then a.X b (tok s l) i * a.Wk d i * (qw a s d * (Real.sqrt 128)⁻¹) else 0) := by
    intro i
    rw [wsc, Finset.mul_sum]
    refine Finset.sum_congr rfl fun d _ => ?_
    have hc : (col h s).val / 8 = h.val := by simp only [col]; omega
    have hs : (⟨(col h s).val % 8, by omega⟩ : Fin 8) = s := by apply Fin.ext; simp only [col]; omega
    rw [gq, hc, hs]
    split
    · ring
    · ring
  rw [Finset.sum_congr rfl fun i _ => e1 i, Finset.sum_comm]
  have e2 : ∀ d : Fin 1024, (∑ i : Fin 1024, (if d.val / 128 = h.val then a.X b (tok s l) i * a.Wk d i * (qw a s d * (Real.sqrt 128)⁻¹) else 0))
      = if d.val / 128 = h.val then (qw a s d * key a b (tok s l) d) * (Real.sqrt 128)⁻¹ else 0 := by
    intro d
    split
    · rw [← Finset.sum_mul, key]; ring
    · exact Finset.sum_const_zero
  rw [Finset.sum_congr rfl fun d _ => e2 d, sum_head, ← Finset.sum_mul, score, div_eq_mul_inv]

/-- The folded value projection gives the slots. -/
theorem fold_mem (b : Fin 4) (s : Fin 8) (d : Fin 1024) (w : Fin 512 → ℝ) :
    ∑ i, a.Wv d i * (∑ l, w l * a.X b (tok s l) i) = ∑ l, w l * val a b (tok s l) d := by
  simp only [val, Finset.mul_sum]
  rw [Finset.sum_comm]
  exact Finset.sum_congr rfl fun l _ => Finset.sum_congr rfl fun i _ => by ring

/-- The folded read projection gives the read scores. -/
theorem fold_rs (b : Fin 4) (t : Fin 4096) (s : Fin 8) (M : Fin 1024 → ℝ) :
    ∑ i, a.X b t i * (∑ j, wqk a i j * M j) = ∑ d, rq a b t d * (∑ j, M j * a.Rkv (lo d) j) := by
  have e1 : ∀ i, a.X b t i * (∑ j, wqk a i j * M j) = ∑ d, ∑ j, a.X b t i * a.Rq d i * (M j * a.Rkv (lo d) j) := by
    intro i
    rw [Finset.sum_comm, Finset.mul_sum]
    refine Finset.sum_congr rfl fun j _ => ?_
    rw [wqk, Finset.sum_mul, Finset.mul_sum]
    exact Finset.sum_congr rfl fun d _ => by ring
  rw [Finset.sum_congr rfl fun i _ => e1 i, Finset.sum_comm]
  refine Finset.sum_congr rfl fun d _ => ?_
  rw [rq, Finset.sum_mul]
  refine Finset.sum_congr rfl fun i _ => ?_
  rw [Finset.mul_sum]

/-! ### The constants -/

theorem eps_coe : Ideal.ofBits .f32 0x358637BD#32 = (eps : EReal) := by
  unfold eps
  rw [EReal.coe_toReal] <;> simp [Ideal.ofBits, Ideal.ieee, -EReal.coe_mul]

theorem eps_pos : 0 < eps := by
  unfold eps
  simp [Ideal.ofBits, Ideal.ieee, -EReal.coe_mul]
  try norm_num

theorem c1024 : Ideal.ofBits .f32 0x44800000#32 = ((1024 : ℝ) : EReal) := by
  simp [Ideal.ofBits, Ideal.ieee, -EReal.coe_mul]; try norm_num

theorem c32 : Ideal.ofBits .f32 0x42000000#32 = ((32 : ℝ) : EReal) := by
  simp [Ideal.ofBits, Ideal.ieee, -EReal.coe_mul]; try norm_num

theorem c128 : Ideal.ofBits .f32 0x43000000#32 = ((128 : ℝ) : EReal) := by
  simp [Ideal.ofBits, Ideal.ieee, -EReal.coe_mul]; try norm_num

theorem cbot : Ideal.ofBits .f32 0xFF800000#32 = (⊥ : EReal) := by
  simp [Ideal.ofBits, Ideal.ieee]

theorem c1 : Ideal.ofBits .f32 0x3F800000#32 = ((1 : ℝ) : EReal) := by
  simp [Ideal.ofBits, Ideal.ieee, -EReal.coe_mul]; try norm_num

/-! ### The norm -/

/-- The mean square is never negative. -/
theorem ms_nonneg (b : Fin 4) (s : Fin 8) : 0 ≤ (∑ e, raw a b s e * raw a b s e) / 1024 :=
  div_nonneg (Finset.sum_nonneg fun e _ => mul_self_nonneg _) (by norm_num)

/-- The reciprocal root of a positive real. -/
theorem rsqrt_real (x : ℝ) (h : 0 < x) : Ideal.rsqrt (x : EReal) = (((Real.sqrt x)⁻¹ : ℝ) : EReal) := by
  rw [Ideal.rsqrt_coe, if_neg (not_lt.mpr h.le), if_neg h.ne']

/-- The norm of a row of reals. -/
theorem norm_real (b : Fin 4) (s : Fin 8) (d : Fin 1024) :
    ((raw a b s d : ℝ) : EReal) * Ideal.rsqrt (Ideal.div ((∑ e, raw a b s e * raw a b s e : ℝ) : EReal) ((1024 : ℝ) : EReal) + (eps : EReal))
      = ((memory a b s d : ℝ) : EReal) := by
  rw [div_real _ _ (by norm_num), ← EReal.coe_add, rsqrt_real _ (add_pos_of_nonneg_of_pos (ms_nonneg a _ _) eps_pos), ← EReal.coe_mul]
  rfl

/-- A real times its logistic. -/
theorem silu_real (x : ℝ) : (x : EReal) * Ideal.div ((1 : ℝ) : EReal) (((1 : ℝ) : EReal) + Ideal.exp (-(x : EReal)))
    = ((x * (1 / (1 + Real.exp (-x))) : ℝ) : EReal) := by
  rw [← EReal.coe_neg, Ideal.exp_coe, ← EReal.coe_add, div_real _ _ (by positivity), ← EReal.coe_mul]

end Cert.Spec

end
-- ==== Proof.Words.lean ====
module

public import proofs.«01_k».proof.Proof.Spec

@[expose] public section

set_option maxRecDepth 16384

noncomputable section

/-! The 32-bit words that index rows, segments, heads and slots, computed on their ranges. -/

namespace Cert.Words

open Idealize.ShloMosaic

/-- The segment of a token, as the host divides. -/
theorem host_seg : ∀ t : Fin 4096, IntOp.divsi .host (BitVec.ofNat 32 t.val) 512#32 = BitVec.ofNat 32 (t.val / 512) := by
  decide +kernel

/-- Comparing a segment with a slot. -/
theorem sle_word : ∀ q s : Fin 8, IntOp.cmpi .sle (BitVec.ofNat 32 q.val) (BitVec.ofNat 32 s.val) = if q.val ≤ s.val then 1#1 else 0#1 := by
  decide +kernel

/-- The word of a quotient as a kernel takes it: the truncated quotient, made smaller by one where the signs differ and a
    remainder is left. -/
abbrev fdiv (x m : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt m 0#32)) (Scalar.extui (Scalar.cmpi .slt m 0#32))))
      (IntOp.cmpi .ne (IntOp.remsi .vector x m) 0#32))
    (IntOp.subi (IntOp.divsi .vector x m) 1#32)
    (IntOp.divsi .vector x m)

/-- The word of a remainder by eight as a kernel takes it, with the sign of the divisor. -/
abbrev fmod (x : BitVec 32) : BitVec 32 :=
  Scalar.select
    (IntOp.andi
      (IntOp.xori
        (IntOp.cmpi .slt (IntOp.remsi .vector x (Scalar.select (Scalar.cmpi .eq 8#32 0#32) 1#32 8#32)) 0#32)
        (Scalar.cmpi .slt (Scalar.select (Scalar.cmpi .eq 8#32 0#32) 1#32 8#32) 0#32))
      (IntOp.cmpi .ne (IntOp.remsi .vector x (Scalar.select (Scalar.cmpi .eq 8#32 0#32) 1#32 8#32)) 0#32))
    (IntOp.addi (IntOp.remsi .vector x (Scalar.select (Scalar.cmpi .eq 8#32 0#32) 1#32 8#32))
      (Scalar.select (Scalar.cmpi .eq 8#32 0#32) 1#32 8#32))
    (IntOp.remsi .vector x (Scalar.select (Scalar.cmpi .eq 8#32 0#32) 1#32 8#32))

/-- The head of a column. -/
theorem fdiv_col : ∀ c : Fin 64, fdiv (BitVec.ofNat 32 c.val) 8#32 = BitVec.ofNat 32 (c.val / 8) := by decide +kernel

/-- The head of a feature. -/
theorem fdiv_feat : ∀ d : Fin 1024, fdiv (BitVec.ofNat 32 d.val) 128#32 = BitVec.ofNat 32 (d.val / 128) := by decide +kernel

/-- The segment of a row of a half. -/
theorem fdiv_row : ∀ r : Fin 2048, fdiv (BitVec.ofNat 32 r.val) 512#32 = BitVec.ofNat 32 (r.val / 512) := by decide +kernel

/-- The slot of a column. -/
theorem fmod_col : ∀ c : Fin 64, fmod (BitVec.ofNat 32 c.val) = BitVec.ofNat 32 (c.val % 8) := by decide +kernel

/-- Comparing two numbers below eight. -/
theorem eq_word : ∀ x y : Fin 8, IntOp.cmpi .eq (BitVec.ofNat 32 x.val) (BitVec.ofNat 32 y.val) = if x.val = y.val then 1#1 else 0#1 := by
  decide +kernel

/-- The write mask: the slot against the segment, at step `j` of a batch. -/
theorem write_word : ∀ (s : Fin 8) (q : Fin 4) (j : Fin 3),
    IntOp.cmpi .eq (BitVec.ofNat 32 s.val)
      (IntOp.addi (BitVec.ofNat 32 q.val) (Scalar.muli (Scalar.subi 1#32 (BitVec.ofNat 32 j.val)) 4#32))
      = if s.val + 4 * j.val = q.val + 4 then 1#1 else 0#1 := by
  decide +kernel

/-- The read mask: the slot against the segment, at step `j` of a batch. -/
theorem read_word : ∀ (s : Fin 8) (q : Fin 4) (j : Fin 3),
    IntOp.cmpi .sge (BitVec.ofNat 32 s.val)
      (IntOp.addi (BitVec.ofNat 32 q.val) (Scalar.muli (Scalar.subi 2#32 (BitVec.ofNat 32 j.val)) 4#32))
      = if q.val + 8 ≤ s.val + 4 * j.val then 1#1 else 0#1 := by
  decide +kernel

/-- A choice by a word that says whether `p` holds. -/
theorem select_ite {α : Type} (p : Prop) [Decidable p] (x y : α) : Scalar.select (if p then 1#1 else 0#1) x y = if p then x else y := by
  split
  · rfl
  · rfl

/-- Both of two words that say whether `p` and whether `q` holds. -/
theorem and_ite (p q : Prop) [Decidable p] [Decidable q] :
    IntOp.andi (if p then 1#1 else 0#1) (if q then 1#1 else 0#1) = if p ∧ q then 1#1 else 0#1 := by
  by_cases hp : p <;> by_cases hq : q <;> simp [hp, hq] <;> decide

end Cert.Words

end
-- ==== Proof.KerPrep.lean ====
module

public import proofs.«01_k».proof.Proof.Spec
public import proofs.«01_k».proof.Proof.Words
public import proofs.«01_k».proof.Proof.BodyKernelIdeal

@[expose] public section

set_option maxRecDepth 16384
set_option maxHeartbeats 400000

noncomputable section

/-! The preparation call over the real numbers: its three results are the folded weights. -/

namespace Cert.KerValue

open Cert.KernelIdeal Cert.KernelIdeal.Gen Cert.KernelIdeal.Body Idealize.ShloMosaic Cert.Spec Cert.Words

/-- The reciprocal of the root of the head's width, as the kernel names it. -/
theorem named_inv : (Named.named κ "inv_rt_hd" (1035273459#32 : BitVec (FTy.bits .f32)) : Ideal .f32) = (((Real.sqrt 128)⁻¹ : ℝ) : EReal) := by
  exact IdealRules.named_const.ideal_named_scalar _ _ _ _ rfl

/-- The mask's value, as the kernel names it. -/
theorem named_mask : (Named.named κ "mask" (4048155338#32 : BitVec (FTy.bits .f32)) : Ideal .f32) = (⊥ : EReal) :=
  IdealRules.named_const.ideal_named_scalar _ _ _ _ rfl

/-- The mask of the heads: feature and column are of the same head. -/
theorem head_mask (d : Fin 1024) (c : Fin 64) :
    headMask (ix2 d c) = if d.val / 128 = c.val / 8 then 1#1 else 0#1 := by
  pointwise [headMask, k0_pay8, k0_pay5, k0_pay6, k0_pay7, colIx, rowIx]
  refine (congrArg₂ (IntOp.cmpi .eq) (fdiv_col c) (fdiv_feat d)).trans ?_
  have h := eq_word ⟨c.val / 8, by omega⟩ ⟨d.val / 128, by omega⟩
  rw [h]
  simp only [eq_comm]

/-- One of the eight chosen places. -/
theorem place (d : Fin 1024) (c : Fin 64) (k : Fin 8) (v : EReal) :
    Scalar.select (IntOp.andi (headMask (ix2 d c)) (IntOp.cmpi .eq (fmod (BitVec.ofNat 32 c.val)) (BitVec.ofNat 32 k.val))) v 0
      = if d.val / 128 = c.val / 8 ∧ c.val % 8 = k.val then v else 0 := by
  have h := eq_word ⟨c.val % 8, by omega⟩ k
  rw [head_mask, fmod_col, h, and_ite, select_ite]

/-- The folded write query, placed on the features of its head. -/
theorem placed (q : FVec Ideal S1024x8 .f32) (d : Fin 1024) (c : Fin 64) :
    prepAcc5 q (ix2 d c) + Scalar.select (k0_pay20 colIx headMask (ix2 d c)) (k0_pay21 q (ix2 d 0)) 0
      = if d.val / 128 = c.val / 8 then q (ix2 d ⟨c.val % 8, by omega⟩) * (((Real.sqrt 128)⁻¹ : ℝ) : EReal) else 0 := by
  pointwise [prepAcc5, prepAcc4, prepAcc3, prepAcc2, prepAcc1, k0_pay9, k0_pay10, k0_pay11, k0_pay12, k0_pay13, k0_pay14, k0_pay15,
    k0_pay16, k0_pay17, k0_pay18, k0_pay19, k0_pay20, k0_pay21, colIx]
  have fm := fmod_col c
  unfold fmod at fm
  have hw : ∀ k : Fin 8, IntOp.cmpi .eq (BitVec.ofNat 32 (c.val % 8)) (BitVec.ofNat 32 k.val) = if c.val % 8 = k.val then 1#1 else 0#1 :=
    fun k => eq_word ⟨c.val % 8, by omega⟩ k
  have h0 : IntOp.cmpi .eq (BitVec.ofNat 32 (c.val % 8)) 0#32 = if c.val % 8 = 0 then 1#1 else 0#1 := hw 0
  have h1 : IntOp.cmpi .eq (BitVec.ofNat 32 (c.val % 8)) 1#32 = if c.val % 8 = 1 then 1#1 else 0#1 := hw 1
  have h2 : IntOp.cmpi .eq (BitVec.ofNat 32 (c.val % 8)) 2#32 = if c.val % 8 = 2 then 1#1 else 0#1 := hw 2
  have h3 : IntOp.cmpi .eq (BitVec.ofNat 32 (c.val % 8)) 3#32 = if c.val % 8 = 3 then 1#1 else 0#1 := hw 3
  have h4 : IntOp.cmpi .eq (BitVec.ofNat 32 (c.val % 8)) 4#32 = if c.val % 8 = 4 then 1#1 else 0#1 := hw 4
  have h5 : IntOp.cmpi .eq (BitVec.ofNat 32 (c.val % 8)) 5#32 = if c.val % 8 = 5 then 1#1 else 0#1 := hw 5
  have h6 : IntOp.cmpi .eq (BitVec.ofNat 32 (c.val % 8)) 6#32 = if c.val % 8 = 6 then 1#1 else 0#1 := hw 6
  have h7 : IntOp.cmpi .eq (BitVec.ofNat 32 (c.val % 8)) 7#32 = if c.val % 8 = 7 then 1#1 else 0#1 := hw 7
  have hm := head_mask d c
  unfold headMask at hm
  simp only [fm, named_inv, head_mask, hm, h0, h1, h2, h3, h4, h5, h6, h7, and_ite, select_ite]
  have key : ∀ k : Fin 8, c.val % 8 = k.val → (⟨c.val % 8, by omega⟩ : Fin 8) = k := fun k h => Fin.ext h
  by_cases hd : d.val / 128 = c.val / 8
  · have hc : c.val % 8 = 0 ∨ c.val % 8 = 1 ∨ c.val % 8 = 2 ∨ c.val % 8 = 3 ∨ c.val % 8 = 4 ∨ c.val % 8 = 5 ∨ c.val % 8 = 6 ∨ c.val % 8 = 7 := by
      omega
    rcases hc with e | e | e | e | e | e | e | e
    · rw [key 0 e]; simp [hd, e]
    · rw [key 1 e]; simp [hd, e]
    · rw [key 2 e]; simp [hd, e]
    · rw [key 3 e]; simp [hd, e]
    · rw [key 4 e]; simp [hd, e]
    · rw [key 5 e]; simp [hd, e]
    · rw [key 6 e]; simp [hd, e]
    · rw [key 7 e]; simp [hd, e]
  · simp [hd]

/-- The write queries, feature by slot. -/
theorem prep_query (a : In) (wq : Vec Ideal S1024x1024 .f32) (ms : Vec Ideal S8x1024 .f32)
    (hq : ∀ d e, wq (ix2 d e) = ((a.Wq d e : ℝ) : EReal)) (hs : ∀ s e, ms (ix2 s e) = ((a.Q s e : ℝ) : EReal))
    (d : Fin 1024) (s : Fin 8) : k0_pay4 wq ms (ix2 d s) = ((qw a s d : ℝ) : EReal) := by
  pointwise [k0_pay4]
  simp only [hq, hs, coe_dot]
  rw [qw]
  exact congrArg _ (Finset.sum_congr rfl fun e _ => mul_comm _ _)

/-- The folded score weights. -/
theorem prep_score (a : In) (wk wq : Vec Ideal S1024x1024 .f32) (ms : Vec Ideal S8x1024 .f32)
    (hk : ∀ d e, wk (ix2 d e) = ((a.Wk d e : ℝ) : EReal))
    (hq : ∀ d e, wq (ix2 d e) = ((a.Wq d e : ℝ) : EReal)) (hs : ∀ s e, ms (ix2 s e) = ((a.Q s e : ℝ) : EReal))
    (i : Fin 1024) (c : Fin 64) : prepScore wk wq ms (ix2 i c) = ((wsc a i c : ℝ) : EReal) := by
  pointwise [prepScore, k0_pay1]
  simp only [placed, prep_query a wq ms hq hs, hk]
  rw [wsc, coe_sum]
  refine Finset.sum_congr rfl fun d _ => ?_
  rw [gq]
  split
  · rw [EReal.coe_mul, EReal.coe_mul]
  · rw [mul_zero, mul_zero, EReal.coe_zero]

/-- The folded read weights. -/
theorem prep_read (a : In) (rq rk : Vec Ideal S1024x1024 .f32)
    (hq : ∀ d e, rq (ix2 d e) = ((a.Rq d e : ℝ) : EReal)) (hk : ∀ d e, rk (ix2 d e) = ((a.Rkv (lo d) e : ℝ) : EReal))
    (i j : Fin 1024) : k0_pay2 rq rk (ix2 i j) = ((wqk a i j : ℝ) : EReal) := by
  pointwise [k0_pay2]
  simp only [hq, hk, coe_dot]
  rw [wqk]

/-- The value weights pass through. -/
theorem prep_value (wv : Vec Ideal S1024x1024 .f32) (i j : Fin 1024) : k0_pay3 wv (ix2 i j) = wv (ix2 i j) := by
  pointwise [k0_pay3]

end Cert.KerValue

end
-- ==== Proof.KerWrite.lean ====
module

public import proofs.«01_k».proof.Proof.KerPrep

@[expose] public section

set_option maxRecDepth 16384
set_option maxHeartbeats 400000

noncomputable section

/-! The write phase of the fused call over the real numbers. -/

namespace Cert.KerValue

open Cert.KernelIdeal Cert.KernelIdeal.Gen Cert.KernelIdeal.Body Idealize.ShloMosaic Cert.Spec Cert.Words

/-- Slot `s` owns row `r` of the half that step `j` works on. -/
def owns (j : Fin 3) (s : Fin 8) (r : Fin 2048) : Prop := s.val + 4 * j.val = r.val / 512 + 4

instance (j : Fin 3) (s : Fin 8) : DecidablePred (owns j s) := fun r => by unfold owns; infer_instance

/-- The slot of a column. -/
def slot (c : Fin 64) : Fin 8 := ⟨c.val % 8, by omega⟩

/-- The reciprocal of the width. -/
theorem cinv1024 : Ideal.ofBits .f32 0x3A800000#32 = ((1 / 1024 : ℝ) : EReal) := by
  simp [Ideal.ofBits, Ideal.ieee, -EReal.coe_mul]; try norm_num

/-- The guard of the write softmax's denominators is a real below one. -/
theorem guard : ∃ g : ℝ, Ideal.ofBits .f32 0x0DA24260#32 = (g : EReal) ∧ 0 < g ∧ g < 1 := by
  refine ⟨(Ideal.ofBits .f32 0x0DA24260#32).toReal, ?_, ?_, ?_⟩
  · rw [EReal.coe_toReal] <;> simp [Ideal.ofBits, Ideal.ieee, -EReal.coe_mul]
  · simp [Ideal.ofBits, Ideal.ieee, -EReal.coe_mul]
    try norm_num
  · simp [Ideal.ofBits, Ideal.ieee, -EReal.coe_mul]
    try norm_num

/-- The write mask at row `r` and column `c`. -/
theorem write_mask (j : Fin 3) (r : Fin 2048) (c : Fin 64) :
    k1_pay12 (Scalar.muli (Scalar.subi 1#32 (BitVec.ofNat 32 j.val)) 4#32) (iota .tc S2048x64 32 [0] iota_S2048x64_d0_w32) 512#32 (ix2 r c)
      = if owns j (slot c) r then 1#1 else 0#1 := by
  pointwise [k1_pay12]
  refine (congrArg₂ (fun x y => IntOp.cmpi .eq x (IntOp.addi y _)) (fmod_col c) (fdiv_row r)).trans ?_
  exact write_word (slot c) ⟨r.val / 512, by omega⟩ j

/-- The masked write scores. -/
theorem write_score (j : Fin 3) (xr : Fin 2048 → Fin 1024 → ℝ) (G : Fin 1024 → Fin 64 → ℝ)
    (x : Vec Ideal S1x1x2048x1024 .f32) (g : Vec Ideal S1024x64 .bf16)
    (hx : ∀ r e, x (ix4 0 0 r e) = ((xr r e : ℝ) : EReal)) (hg : ∀ e c, g (ix2 e c) = ((G e c : ℝ) : EReal)) (r : Fin 2048) (c : Fin 64) :
    k1_pay13 (F := Ideal) (Scalar.muli (Scalar.subi 1#32 (BitVec.ofNat 32 j.val)) 4#32) (k1_pay11 x g)
        (iota .tc S2048x64 32 [0] iota_S2048x64_d0_w32) 512#32 (ix2 r c)
      = if owns j (slot c) r then ((∑ k, xr r k * G k c : ℝ) : EReal) else ⊥ := by
  have e1 : k1_pay11 x g (ix2 r c) = ((∑ k, xr r k * G k c : ℝ) : EReal) := by
    pointwise [k1_pay11, k1_pay10]
    simp only [hx, hg, coe_dot]
  pointwise [k1_pay13]
  rw [e1, named_mask]
  erw [write_mask]
  exact select_ite _ _ _

/-- A column's softmax, its guarded denominator and its mask, against the rows of the half. -/
theorem pooled (p : Fin 2048 → Prop) [DecidablePred p] (f x : Fin 2048 → ℝ) (z : Fin 2048 → EReal) (Y : Fin 2048 → BitVec 1)
    (hz : ∀ r, z r = if p r then ((f r : ℝ) : EReal) else ⊥) (hY : ∀ r, Y r = if p r then 1#1 else 0#1) :
    (∑ r, Scalar.select (Y r)
        (Ideal.div (Ideal.exp (z r - Finset.univ.fold max ⊥ z))
          (max (∑ r, Ideal.exp (z r - Finset.univ.fold max ⊥ z)) (Ideal.ofBits .f32 0x0DA24260#32)) * ((x r : ℝ) : EReal)) 0)
      = ((∑ r, smax p f r * x r : ℝ) : EReal) := by
  obtain ⟨gd, hgd, gpos, glt⟩ := guard
  rw [coe_sum]
  refine Finset.sum_congr rfl fun r _ => ?_
  rw [hY, select_ite]
  by_cases h : p r
  · obtain ⟨m, hm, h1, he⟩ := soft p f ⟨r, h⟩ z hz
    rw [if_pos h, hm]
    simp only [he]
    rw [← coe_sum, hgd, max_eq_left (by exact_mod_cast (glt.le.trans h1)), div_real _ _ (by linarith), smax_shift, EReal.coe_mul]
  · rw [if_neg h, smax, if_neg h, zero_mul, EReal.coe_zero]

/-- The slots' columns of a step over the real numbers. -/
def cols (j : Fin 3) (xr : Fin 2048 → Fin 1024 → ℝ) (G : Fin 1024 → Fin 64 → ℝ) (W : Fin 1024 → Fin 1024 → ℝ)
    (d : Fin 1024) (c : Fin 64) : ℝ :=
  ∑ e, W d e * ∑ r, smax (owns j (slot c)) (fun r => ∑ k, xr r k * G k c) r * xr r e

/-- The slots' columns before they are laid out. -/
theorem raw_cols (i : grid1.Coords) (j : Fin 3) (hj : (i 1).val = j.val) (xr : Fin 2048 → Fin 1024 → ℝ) (G : Fin 1024 → Fin 64 → ℝ)
    (W : Fin 1024 → Fin 1024 → ℝ) (x : Vec Ideal S1x1x2048x1024 .f32) (g : Vec Ideal S1024x64 .bf16) (wv : Vec Ideal S1024x1024 .bf16)
    (hx : ∀ r e, x (ix4 0 0 r e) = ((xr r e : ℝ) : EReal)) (hg : ∀ e c, g (ix2 e c) = ((G e c : ℝ) : EReal))
    (hw : ∀ d e, wv (ix2 d e) = ((W d e : ℝ) : EReal)) (d : Fin 1024) (c : Fin 64) :
    memRaw i x g wv (ix2 d c) = ((cols j xr G W d c : ℝ) : EReal) := by
  unfold memRaw cols
  rw [hj]
  have hz := fun r => write_score j xr G x g hx hg r c
  have hY := fun r => write_mask j r c
  generalize k1_pay13 (F := Ideal) (Scalar.muli (Scalar.subi 1#32 (BitVec.ofNat 32 j.val)) 4#32) (k1_pay11 x g)
        (iota .tc S2048x64 32 [0] iota_S2048x64_d0_w32) 512#32 = z at hz ⊢
  generalize k1_pay12 (Scalar.muli (Scalar.subi 1#32 (BitVec.ofNat 32 j.val)) 4#32)
        (iota .tc S2048x64 32 [0] iota_S2048x64_d0_w32) 512#32 = Y at hY ⊢
  pointwise [k1_pay14, k1_pay10]
  simp only [hx, hw, cbot]
  rw [← coe_dot]
  refine Finset.sum_congr rfl fun e _ => congrArg _ ?_
  exact pooled (owns j (slot c)) (fun r => ∑ k, xr r k * G k c) (fun r => xr r e) (fun r => z (ix2 r c)) (fun r => Y (ix2 r c)) hz hY

/-- What a step's write phase adds to the memory, from the slots' columns `R`. -/
def addend (R : Fin 1024 → Fin 64 → ℝ) (wm : Fin 1024 → ℝ) (d : Fin 1024) (s : Fin 8) : ℝ :=
  (R d (col (head d) s) * wm d)
    * (Real.sqrt ((∑ e, (R e (col (head e) s) * wm e) * (R e (col (head e) s) * wm e)) * (1 / 1024) + eps))⁻¹

/-- The head of a feature, as the write phase lays the slots out. -/
theorem lay_head (d : Fin 1024) (s : Fin 8) : k1_pay15 (ix2 d s) = BitVec.ofNat 32 (d.val / 128) := by
  pointwise [k1_pay15]
  exact fdiv_feat d

/-- The eight columns of a slot, each on the features of its head. -/
theorem laid (R : Fin 1024 → Fin 64 → ℝ) (mr : FVec Ideal S1024x64 .f32) (hR : ∀ d c, mr (ix2 d c) = ((R d c : ℝ) : EReal))
    (d : Fin 1024) (s : Fin 8) :
    k1_pay17 mr k1_pay15 k1_pay16 (ix2 d s) + Scalar.select (k1_pay18 k1_pay15 (ix2 d s)) (k1_pay19 mr (ix2 d s)) 0
      = ((R d (col (head d) s) : ℝ) : EReal) := by
  pointwise [k1_pay17, k1_pay16, k1_pay18, k1_pay19]
  have hw : ∀ k : Fin 8, IntOp.cmpi .eq (BitVec.ofNat 32 (d.val / 128)) (BitVec.ofNat 32 k.val) = if d.val / 128 = k.val then 1#1 else 0#1 :=
    fun k => eq_word ⟨d.val / 128, by omega⟩ k
  have h0 : IntOp.cmpi .eq (BitVec.ofNat 32 (d.val / 128)) 0#32 = if d.val / 128 = 0 then 1#1 else 0#1 := hw 0
  have h1 : IntOp.cmpi .eq (BitVec.ofNat 32 (d.val / 128)) 1#32 = if d.val / 128 = 1 then 1#1 else 0#1 := hw 1
  have h2 : IntOp.cmpi .eq (BitVec.ofNat 32 (d.val / 128)) 2#32 = if d.val / 128 = 2 then 1#1 else 0#1 := hw 2
  have h3 : IntOp.cmpi .eq (BitVec.ofNat 32 (d.val / 128)) 3#32 = if d.val / 128 = 3 then 1#1 else 0#1 := hw 3
  have h4 : IntOp.cmpi .eq (BitVec.ofNat 32 (d.val / 128)) 4#32 = if d.val / 128 = 4 then 1#1 else 0#1 := hw 4
  have h5 : IntOp.cmpi .eq (BitVec.ofNat 32 (d.val / 128)) 5#32 = if d.val / 128 = 5 then 1#1 else 0#1 := hw 5
  have h6 : IntOp.cmpi .eq (BitVec.ofNat 32 (d.val / 128)) 6#32 = if d.val / 128 = 6 then 1#1 else 0#1 := hw 6
  have h7 : IntOp.cmpi .eq (BitVec.ofNat 32 (d.val / 128)) 7#32 = if d.val / 128 = 7 then 1#1 else 0#1 := hw 7
  simp only [lay_head, h0, h1, h2, h3, h4, h5, h6, h7, select_ite]
  simp only [hR]
  have hc : d.val / 128 = 0 ∨ d.val / 128 = 1 ∨ d.val / 128 = 2 ∨ d.val / 128 = 3 ∨ d.val / 128 = 4 ∨ d.val / 128 = 5 ∨ d.val / 128 = 6
      ∨ d.val / 128 = 7 := by
    omega
  have key : ∀ n : ℕ, (hn : n < 64) → n = 8 * (d.val / 128) + s.val → col (head d) s = ⟨n, hn⟩ :=
    fun n hn h => Fin.ext (by simp only [col, head]; omega)
  rcases hc with e | e | e | e | e | e | e | e
  · rw [key s.val (by omega) (by omega)]; simp [e]
  · rw [key (8 + s.val) (by omega) (by omega)]; simp [e]
  · rw [key (16 + s.val) (by omega) (by omega)]; simp [e]
  · rw [key (24 + s.val) (by omega) (by omega)]; simp [e]
  · rw [key (32 + s.val) (by omega) (by omega)]; simp [e]
  · rw [key (40 + s.val) (by omega) (by omega)]; simp [e]
  · rw [key (48 + s.val) (by omega) (by omega)]; simp [e]
  · rw [key (56 + s.val) (by omega) (by omega)]; simp [e]

/-- The memory after a step. -/
theorem memOut_real (i : grid1.Coords) (j : Fin 3) (hj : (i 1).val = j.val) (xr : Fin 2048 → Fin 1024 → ℝ) (G : Fin 1024 → Fin 64 → ℝ)
    (W : Fin 1024 → Fin 1024 → ℝ) (m : Fin 1024 → ℝ) (M' : Fin 1024 → Fin 8 → ℝ)
    (x : Vec Ideal S1x1x2048x1024 .f32) (g : Vec Ideal S1024x64 .bf16) (wv : Vec Ideal S1024x1024 .bf16) (wm M : Vec Ideal S1024x8 .f32)
    (hx : ∀ r e, x (ix4 0 0 r e) = ((xr r e : ℝ) : EReal)) (hg : ∀ e c, g (ix2 e c) = ((G e c : ℝ) : EReal))
    (hw : ∀ d e, wv (ix2 d e) = ((W d e : ℝ) : EReal)) (hm : ∀ d s, wm (ix2 d s) = ((m d : ℝ) : EReal))
    (hM : ∀ d s, M (ix2 d s) = ((M' d s : ℝ) : EReal)) (d : Fin 1024) (s : Fin 8) :
    memOut i x g wv wm M (ix2 d s)
      = ((M' d s + addend (cols j xr G W) m d s : ℝ) : EReal) := by
  have hR := raw_cols i j hj xr G W x g wv hx hg hw
  unfold memOut
  generalize memRaw i x g wv = mr at hR ⊢
  generalize cols j xr G W = R at hR ⊢
  pointwise [k1_pay1]
  simp only [laid R mr hR, hm, hM, ← EReal.coe_mul]
  rw [← coe_sum, cinv1024, eps_coe, ← EReal.coe_mul, ← EReal.coe_add, rsqrt_real, ← EReal.coe_mul, ← EReal.coe_add]
  · rfl
  · exact add_pos_of_nonneg_of_pos (mul_nonneg (Finset.sum_nonneg fun e _ => mul_self_nonneg _) (by norm_num)) eps_pos

/-! ### The half a step works on -/

/-- Row `r` of half `h` of the tokens. -/
def row (h : Fin 2) (r : Fin 2048) : Fin 4096 := ⟨2048 * h.val + r.val, by omega⟩

/-- A softmax over the rows that a slot owns is the slot's attention. -/
theorem cols_mem (a : In) (b : Fin 4) (j : Fin 3) (h : Fin 2) (hjh : j.val + h.val = 1) (s : Fin 8) (hs : s.val / 4 = h.val) (d : Fin 1024) :
    cols j (fun r e => a.X b (row h r) e) (wsc a) a.Wv d (col (head d) s) = mem a b s d := by
  have hslot : slot (col (head d) s) = s := Fin.ext (by simp only [slot, col, head]; omega)
  have hrow : ∀ e : Fin 512, row h ⟨512 * (s.val % 4) + e.val, by omega⟩ = tok s e := fun e => Fin.ext (by simp only [row, tok]; omega)
  have hown : ∀ r : Fin 2048, owns j s r ↔ r.val / 512 = s.val % 4 := fun r => by unfold owns; omega
  have hsum : ∀ f : Fin 2048 → ℝ, ∑ r : Fin 2048, (if owns j s r then f r else 0) = ∑ e : Fin 512, f ⟨512 * (s.val % 4) + e.val, by omega⟩ := by
    intro f
    rw [← sum_seg ⟨s.val % 4, by omega⟩ f]
    exact Finset.sum_congr rfl fun r _ => if_congr (hown r) rfl rfl
  unfold cols
  rw [hslot, mem, ← fold_mem]
  refine Finset.sum_congr rfl fun i _ => congrArg _ ?_
  have e1 : ∀ r : Fin 2048, smax (owns j s) (fun r => ∑ k, a.X b (row h r) k * wsc a k (col (head d) s)) r * a.X b (row h r) i
      = if owns j s r then (Real.exp (∑ k, a.X b (row h r) k * wsc a k (col (head d) s))
          / ∑ q : Fin 2048, (if owns j s q then Real.exp (∑ k, a.X b (row h q) k * wsc a k (col (head d) s)) else 0)) * a.X b (row h r) i else 0 := by
    intro r
    unfold smax
    split
    · rfl
    · rw [zero_mul]
  rw [Finset.sum_congr rfl fun r _ => e1 r, hsum, hsum]
  refine Finset.sum_congr rfl fun e _ => ?_
  simp only [hrow, fold_score]
  unfold wattn smax
  simp only [if_true]

/-- A slot that owns no row of the half gets nothing. -/
theorem cols_zero (j : Fin 3) (xr : Fin 2048 → Fin 1024 → ℝ) (G : Fin 1024 → Fin 64 → ℝ) (W : Fin 1024 → Fin 1024 → ℝ) (s : Fin 8)
    (hs : ∀ r, ¬ owns j s r) (d : Fin 1024) : cols j xr G W d (col (head d) s) = 0 := by
  have hslot : slot (col (head d) s) = s := Fin.ext (by simp only [slot, col, head]; omega)
  unfold cols
  rw [hslot]
  refine Finset.sum_eq_zero fun e _ => ?_
  rw [Finset.sum_eq_zero, mul_zero]
  intro r _
  rw [smax, if_neg (hs r), zero_mul]

/-- What a step adds to a slot of its half. -/
theorem addend_memory (a : In) (b : Fin 4) (j : Fin 3) (h : Fin 2) (hjh : j.val + h.val = 1) (s : Fin 8) (hs : s.val / 4 = h.val) (d : Fin 1024) :
    addend (cols j (fun r e => a.X b (row h r) e) (wsc a) a.Wv) a.wm d s = memory a b s d := by
  unfold addend memory raw
  simp only [cols_mem a b j h hjh s hs]
  rw [mul_one_div]

/-- What a step adds to a slot that owns no row of its half. -/
theorem addend_zero (j : Fin 3) (xr : Fin 2048 → Fin 1024 → ℝ) (G : Fin 1024 → Fin 64 → ℝ) (W : Fin 1024 → Fin 1024 → ℝ) (m : Fin 1024 → ℝ)
    (s : Fin 8) (hs : ∀ r, ¬ owns j s r) (d : Fin 1024) : addend (cols j xr G W) m d s = 0 := by
  unfold addend
  rw [cols_zero j xr G W s hs d, zero_mul, zero_mul]

end Cert.KerValue

end
-- ==== Proof.KerRead.lean ====
module

public import proofs.«01_k».proof.Proof.KerWrite

@[expose] public section

set_option maxRecDepth 16384
set_option maxHeartbeats 400000

noncomputable section

/-! The read phase of the fused call over the real numbers. -/

namespace Cert.KerValue

open Cert.KernelIdeal Cert.KernelIdeal.Gen Cert.KernelIdeal.Body Idealize.ShloMosaic Cert.Spec Cert.Words

/-- Row `r` may read slot `s` at step `j`. -/
def reads (j : Fin 3) (r : Fin 2048) (s : Fin 8) : Prop := r.val / 512 + 8 ≤ s.val + 4 * j.val

instance (j : Fin 3) (r : Fin 2048) : DecidablePred (reads j r) := fun s => by unfold reads; infer_instance

/-- The reciprocal of the root of the width. -/
theorem cinv32 : Ideal.ofBits .f32 0x3D000000#32 = ((1 / 32 : ℝ) : EReal) := by
  simp [Ideal.ofBits, Ideal.ieee, -EReal.coe_mul]; try norm_num

/-- The segment of a row, as the read phase takes it. -/
theorem read_seg (r : Fin 2048) (s : Fin 8) :
    Scalar.select (k1_pay8 (ix2 r s)) (IntOp.subi (k1_pay7 (ix2 r s)) 1#32) (k1_pay7 (ix2 r s)) = BitVec.ofNat 32 (r.val / 512) := by
  pointwise [k1_pay7, k1_pay8]
  exact fdiv_row r

/-- The read mask. -/
theorem read_mask (j : Fin 3) (r : Fin 2048) (s : Fin 8) :
    IntOp.cmpi .sge (BitVec.ofNat 32 s.val)
      (IntOp.addi (BitVec.ofNat 32 (r.val / 512)) (Scalar.muli (Scalar.subi 2#32 (BitVec.ofNat 32 j.val)) 4#32))
      = if reads j r s then 1#1 else 0#1 :=
  read_word s ⟨r.val / 512, by omega⟩ j

/-- The masked read scores. -/
def rsc (P : Fin 2048 → Fin 1024 → ℝ) (K : Fin 1024 → Fin 1024 → ℝ) (M' : Fin 1024 → Fin 8 → ℝ) (r : Fin 2048) (s : Fin 8) : ℝ :=
  (∑ i, P r i * ∑ k, K i k * M' k s) * (1 / 32)

/-- The attended values of a row. -/
def att (j : Fin 3) (P : Fin 2048 → Fin 1024 → ℝ) (K V : Fin 1024 → Fin 1024 → ℝ) (M' : Fin 1024 → Fin 8 → ℝ) (r : Fin 2048) (d : Fin 1024) : ℝ :=
  ∑ s, smax (reads j r) (rsc P K M' r) s * ∑ k, M' k s * V k d

/-- A masked softmax against a row of values. -/
theorem attended (p : Fin 8 → Prop) [DecidablePred p] (f v : Fin 8 → ℝ) (hp : ∃ s, p s) :
    (∑ s, Ideal.div (Ideal.exp ((if p s then ((f s : ℝ) : EReal) else ⊥) - Finset.univ.fold max ⊥ (fun s => if p s then ((f s : ℝ) : EReal) else ⊥)))
        (∑ s, Ideal.exp ((if p s then ((f s : ℝ) : EReal) else ⊥) - Finset.univ.fold max ⊥ (fun s => if p s then ((f s : ℝ) : EReal) else ⊥)))
          * ((v s : ℝ) : EReal))
      = ((∑ s, smax p f s * v s : ℝ) : EReal) := by
  obtain ⟨m, hm, h1, he⟩ := soft p f hp (fun s => if p s then ((f s : ℝ) : EReal) else ⊥) fun _ => rfl
  rw [hm]
  simp only [he]
  rw [← coe_sum, ← coe_dot]
  refine Finset.sum_congr rfl fun s _ => ?_
  rw [div_real _ _ (by linarith), smax_shift]

/-- The output block of a step. -/
theorem readOut_real (i : grid1.Coords) (j : Fin 3) (hj : (i 1).val = j.val) (h1 : 1 ≤ j.val) (P : Fin 2048 → Fin 1024 → ℝ)
    (K V : Fin 1024 → Fin 1024 → ℝ) (M' : Fin 1024 → Fin 8 → ℝ)
    (w wr : Vec Ideal S1024x1024 .bf16) (M : Vec Ideal S1024x8 .f32) (p : Vec Ideal S2048x1024 .bf16)
    (hw : ∀ d e, w (ix2 d e) = ((K d e : ℝ) : EReal)) (hr : ∀ d e, wr (ix2 d e) = ((V d e : ℝ) : EReal))
    (hM : ∀ d s, M (ix2 d s) = ((M' d s : ℝ) : EReal)) (hp : ∀ r e, p (ix2 r e) = ((P r e : ℝ) : EReal)) (r : Fin 2048) (d : Fin 1024) :
    readOut i w wr M p (ix4 0 0 r d) = ((att j P K V M' r d * (1 / (1 + Real.exp (-(att j P K V M' r d)))) : ℝ) : EReal) := by
  pointwise [readOut, k1_pay9, k1_pay6, k1_pay5]
  rw [hj]
  simp only [read_seg, read_mask, select_ite, hw, hr, hM, hp, coe_dot, named_mask, cbot, cinv32]
  simp only [← EReal.coe_mul]
  have h := attended (reads j r) (rsc P K M' r) (fun s => ∑ k, M' k s * V k d)
    ⟨7, by unfold reads; show r.val / 512 + 8 ≤ 7 + 4 * j.val; omega⟩
  unfold rsc at h
  rw [h, Ideal.logistic_coe, ← EReal.coe_mul, ← one_div]
  rfl

/-! ### The rows of a half -/

/-- What a row attends to, where the memory holds every slot the row may read. -/
theorem att_out (a : In) (b : Fin 4) (j : Fin 3) (h : Fin 2) (hjh : j.val + h.val = 2) (M' : Fin 1024 → Fin 8 → ℝ)
    (hM : ∀ d s, 4 * h.val ≤ s.val → M' d s = memory a b s d) (r : Fin 2048) (d : Fin 1024) :
    att j (fun r e => a.X b (row h r) e) (wqk a) (fun k d => a.Rkv (hi d) k) M' r d = out a b (row h r) d := by
  have hreads : ∀ s : Fin 8, reads j r s ↔ (row h r).val / 512 ≤ s.val := fun s => by unfold reads row; dsimp only; omega
  have hge : ∀ s : Fin 8, reads j r s → 4 * h.val ≤ s.val := fun s hs => by unfold reads at hs; omega
  have hsc : ∀ s : Fin 8, reads j r s → rsc (fun r e => a.X b (row h r) e) (wqk a) M' r s = rs a b (row h r) s := by
    intro s hs
    unfold rsc rs
    rw [fold_rs a b (row h r) s, mul_one_div]
    simp only [rkv, fun d => hM d s (hge s hs)]
  have hex : ∀ s : Fin 8, (if reads j r s then Real.exp (rsc (fun r e => a.X b (row h r) e) (wqk a) M' r s) else 0)
      = if (row h r).val / 512 ≤ s.val then Real.exp (rs a b (row h r) s) else 0 := by
    intro s
    by_cases hs : reads j r s
    · rw [if_pos hs, if_pos ((hreads s).mp hs), hsc s hs]
    · rw [if_neg hs, if_neg (fun h => hs ((hreads s).mpr h))]
  unfold att out
  refine Finset.sum_congr rfl fun s _ => ?_
  unfold rattn smax
  by_cases hs : reads j r s
  · rw [if_pos hs, if_pos ((hreads s).mp hs), hsc s hs, Finset.sum_congr rfl fun s _ => hex s]
    simp only [rkv, fun d => hM d s (hge s hs)]
  · rw [if_neg hs, if_neg (fun h => hs ((hreads s).mpr h)), zero_mul, zero_mul]

end Cert.KerValue

end
-- ==== Proof.KerEntry.lean ====
module

public import proofs.«01_k».proof.Proof.KerRead
public import proofs.«01_k».proof.Proof.RunKernelIdeal

@[expose] public section

set_option maxRecDepth 16384
set_option maxHeartbeats 400000

noncomputable section

/-! The arrays that the two calls read, over the real numbers. -/

namespace Cert.KerValue

open Cert.KernelIdeal Cert.KernelIdeal.Gen Cert.KernelIdeal.Body Idealize.ShloMosaic Idealize.ShloMosaic.TcCoe Cert.Spec Cert.Words
open Idealize.ShloMosaic.Pipeline (Dat)

/-- The eight arguments of a core are the real tables `a`. -/
structure Holds (m : (ℓ : Loc nD τ sig) → Buf (Elt Ideal) ℓ) (c : Dev nD) (a : In) : Prop where
  X : ∀ b t e, m ((c : Thread nD τ).loc main_arg0) (ix3 b t e) = ((a.X b t e : ℝ) : EReal)
  Q : ∀ s e, m ((c : Thread nD τ).loc main_arg1) (ix2 s e) = ((a.Q s e : ℝ) : EReal)
  Rq : ∀ d e, m ((c : Thread nD τ).loc main_arg2) (ix2 d e) = ((a.Rq d e : ℝ) : EReal)
  Rkv : ∀ d e, m ((c : Thread nD τ).loc main_arg3) (ix2 d e) = ((a.Rkv d e : ℝ) : EReal)
  Wq : ∀ d e, m ((c : Thread nD τ).loc main_arg4) (ix2 d e) = ((a.Wq d e : ℝ) : EReal)
  Wk : ∀ d e, m ((c : Thread nD τ).loc main_arg5) (ix2 d e) = ((a.Wk d e : ℝ) : EReal)
  Wv : ∀ d e, m ((c : Thread nD τ).loc main_arg6) (ix2 d e) = ((a.Wv d e : ℝ) : EReal)
  wm : ∀ d, m ((c : Thread nD τ).loc main_arg7) (ix1 d) = ((a.wm d : ℝ) : EReal)

variable (m : (ℓ : Loc nD τ sig) → Buf (Elt Ideal) ℓ) (c : Dev nD) (a : In)

/-- The tokens as batches of two halves. -/
theorem entry_x (h : Holds m c a) (b : Fin 4) (k : Fin 2) (r : Fin 2048) (e : Fin 1024) :
    U1 m c main_call0_v0 (ix4 b k r e) = ((a.X b (row k r) e : ℝ) : EReal) := by
  unfold U1 V1
  entry_read
  pointwise
  refine Eq.trans ?_ (h.X b (row k r) e)
  refine congrArg (m ((c : Thread nD τ).loc main_arg0)) (?_ : ix3 b ⟨k.val * 2048 + r.val, by omega⟩ e = ix3 b (row k r) e)
  exact congrArg (fun q => ix3 b q e) (Fin.ext (by simp only [row]; omega))

/-- The read value weights, transposed. -/
theorem entry_v (h : Holds m c a) (k : Fin 1024) (d : Fin 1024) :
    U1 m c main_call0_v3 (ix2 k d) = ((a.Rkv (hi d) k : ℝ) : EReal) := by
  unfold U1 V1
  entry_read
  refine Eq.trans (b := (truncf .bf16 (transpose S1024x1024 [1, 0] (extractStridedSlice S1024x1024 ![1024, 0]
    (show FVec Ideal S2048x1024 .f32 from m ((c : Thread nD τ).loc main_arg3)) slices_S2048x1024_S1024x1024_1024_0)
    transposes_S1024x1024_S1024x1024_1_0) bitsLt_bf16_f32 : FVec Ideal S1024x1024 .bf16) (ix2 k d)) rfl ?_
  pointwise
  exact h.Rkv (hi d) k

/-- The write vector, once for every slot. -/
theorem entry_w (h : Holds m c a) (d : Fin 1024) (s : Fin 8) :
    U1 m c main_call0_v5 (ix2 d s) = ((a.wm d : ℝ) : EReal) := by
  unfold U1 V1
  entry_read
  refine Eq.trans (b := (broadcastInDim S1024x8 ![0, 1] bcast_S1024x1_S1024x8_0_1 (broadcastInDim S1024x1 ![0] bcast_S1024_S1024x1_0
    (show FVec Ideal S1024 .f32 from m ((c : Thread nD τ).loc main_arg7))) : FVec Ideal S1024x8 .f32) (ix2 d s)) rfl ?_
  pointwise
  exact h.wm d

/-- The read key weights. -/
theorem entry_k (h : Holds m c a) (d k : Fin 1024) :
    U1 m c main_call0_v6 (ix2 d k) = ((a.Rkv (lo d) k : ℝ) : EReal) := by
  unfold U1 V1
  entry_read
  refine Eq.trans (b := (extractStridedSlice S1024x1024 ![0, 0]
    (show FVec Ideal S2048x1024 .f32 from m ((c : Thread nD τ).loc main_arg3)) slices_S2048x1024_S1024x1024_0_0 : FVec Ideal S1024x1024 .f32)
    (ix2 d k)) rfl ?_
  pointwise
  exact h.Rkv (lo d) k

/-- The index maps of the preparation call. -/
theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The preparation call's first result is its payload over the arguments, -/
theorem score_array : (dat0 (U1 m) c).arrAt 6 cfg0.N
    = prepScore (U1 m c main_arg5) (U1 m c main_arg4) (U1 m c main_arg1) := by
  refine (dat0 (U1 m) c).arrAt_eq_of_after_last 6 t0_0 (by decide +kernel) _ fun j => ?_
  blk_simp
  dsimp only [dat0]
  blk_point [blk0, idx0 t0_0]
/-- the second -/
theorem read_array : (dat0 (U1 m) c).arrAt 7 cfg0.N = k0_pay2 (U1 m c main_arg2) (U1 m c main_call0_v6) := by
  refine (dat0 (U1 m) c).arrAt_eq_of_after_last 7 t0_0 (by decide +kernel) _ fun j => ?_
  blk_simp
  dsimp only [dat0]
  blk_point [blk0, idx0 t0_0]
/-- and the third. -/
theorem value_array : (dat0 (U1 m) c).arrAt 8 cfg0.N = k0_pay3 (U1 m c main_arg6) := by
  refine (dat0 (U1 m) c).arrAt_eq_of_after_last 8 t0_0 (by decide +kernel) _ fun j => ?_
  blk_simp
  dsimp only [dat0]
  blk_point [blk0, idx0 t0_0]

/-- The host operations before the calls leave the arguments alone. -/
theorem entry_arg (r : Ref sig .tc) (hr : r ∉ hostOps0_W) : U1 m c r = m ((c : Thread nD τ).loc r) := by
  unfold U1
  rw [V1_of m c r hr]

/-- What the fused call reads: the tokens, -/
theorem fused_x (h : Holds m c a) (b : Fin 4) (k : Fin 2) (r : Fin 2048) (e : Fin 1024) :
    U2 m c main_call0_v0 (ix4 b k r e) = ((a.X b (row k r) e : ℝ) : EReal) := by
  rw [U2_of m c main_call0_v0 (by decide)]
  exact entry_x m c a h b k r e
/-- the folded score weights, -/
theorem fused_score (h : Holds m c a) (i : Fin 1024) (cc : Fin 64) :
    U2 m c main_call0_v7_0 (ix2 i cc) = ((wsc a i cc : ℝ) : EReal) := by
  rw [U2_v7_0, score_array, entry_arg m c main_arg5 (by decide), entry_arg m c main_arg4 (by decide), entry_arg m c main_arg1 (by decide)]
  exact prep_score a _ _ _ h.Wk h.Wq h.Q i cc
/-- the folded read weights, -/
theorem fused_read (h : Holds m c a) (i j : Fin 1024) :
    U2 m c main_call0_v7_1 (ix2 i j) = ((wqk a i j : ℝ) : EReal) := by
  rw [U2_v7_1, read_array, entry_arg m c main_arg2 (by decide)]
  exact prep_read a _ _ h.Rq (entry_k m c a h) i j
/-- the write value weights, -/
theorem fused_value (h : Holds m c a) (i j : Fin 1024) :
    U2 m c main_call0_v7_2 (ix2 i j) = ((a.Wv i j : ℝ) : EReal) := by
  rw [U2_v7_2, value_array, entry_arg m c main_arg6 (by decide)]
  exact (prep_value _ i j).trans (h.Wv i j)
/-- the read value weights -/
theorem fused_v (h : Holds m c a) (k d : Fin 1024) :
    U2 m c main_call0_v3 (ix2 k d) = ((a.Rkv (hi d) k : ℝ) : EReal) := by
  rw [U2_of m c main_call0_v3 (by decide)]
  exact entry_v m c a h k d
/-- and the write vector. -/
theorem fused_w (h : Holds m c a) (d : Fin 1024) (s : Fin 8) :
    U2 m c main_call0_v5 (ix2 d s) = ((a.wm d : ℝ) : EReal) := by
  rw [U2_of m c main_call0_v5 (by decide)]
  exact entry_w m c a h d s

end Cert.KerValue

end
-- ==== Proof.KerFused.lean ====
module

public import proofs.«01_k».proof.Proof.KerEntry

@[expose] public section

set_option maxRecDepth 16384
set_option maxHeartbeats 400000

noncomputable section

/-! The fused call over the real numbers: the memory from step to step, and the two arrays it leaves. -/

namespace Cert.KerValue

open Cert.KernelIdeal Cert.KernelIdeal.Gen Cert.KernelIdeal.Body Idealize.ShloMosaic Idealize.ShloMosaic.TcCoe Cert.Spec Cert.Words
open Idealize.ShloMosaic.Pipeline (Dat)

variable (m : (ℓ : Loc nD τ sig) → Buf (Elt Ideal) ℓ) (c : Dev nD) (a : In)

/-- The index maps of the fused call: point `t` is step `t % 3` of batch `t / 3`. -/
theorem idx1 : ∀ t : Fin cfg1.N, win1_0.index t = ![t.val / 3, 1 - min (t.val % 3) 1, 0, 0] ∧ win1_1.index t = ![0, 0] ∧ win1_2.index t = ![0, 0]
    ∧ win1_3.index t = ![0, 0] ∧ win1_4.index t = ![0, 0] ∧ win1_5.index t = ![0, 0]
    ∧ win1_6.index t = ![t.val / 3, 2 - max (t.val % 3) 1, 0, 0] ∧ win1_7.index t = ![t.val / 3, 0, 0] :=
  (by decide +kernel : ∀ t : Fin grid1.N, _)

/-- The step and the batch of a point. -/
theorem step1 : ∀ t : Fin cfg1.N, (grid1.coords t 1).val = t.val % 3 ∧ t.val < 12 ∧ (isFirst (grid1.coords t) ↔ t.val % 3 = 0) :=
  (by decide +kernel : ∀ t : Fin grid1.N, _)

/-- The output is written back only after a batch's first step. -/
theorem flush_out : ∀ t : Fin cfg1.N, (cfg1.win 6).flush t = true → 1 ≤ t.val % 3 :=
  (by decide +kernel : ∀ t : Fin grid1.N, win1_6.flush t = true → 1 ≤ t.val % 3)

/-- The memory is written back after a batch's last step. -/
theorem flush_mem : ∀ t : Fin cfg1.N, (cfg1.win 7).flush t = true → t.val % 3 = 2 :=
  (by decide +kernel : ∀ t : Fin grid1.N, win1_7.flush t = true → t.val % 3 = 2)

/-- The batch of a point. -/
def bat (n : ℕ) (h : n < 12) : Fin 4 := ⟨n / 3, by omega⟩
/-- The half that the write phase of a point works on. -/
def wh (n : ℕ) : Fin 2 := ⟨1 - min (n % 3) 1, by omega⟩
/-- The half that the read phase of a point works on. -/
def rh (n : ℕ) : Fin 2 := ⟨2 - max (n % 3) 1, by omega⟩

/-- The block of tokens of a point. -/
theorem blk_x (h : Holds m c a) (t : Fin cfg1.N) (ht : t.val < 12) (r : Fin 2048) (e : Fin 1024) :
    blk1 (U2 m) c 0 t (ix4 0 0 r e) = ((a.X (bat t.val ht) (row (wh t.val) r) e : ℝ) : EReal) := by
  refine Eq.trans ?_ (fused_x m c a h (bat t.val ht) (wh t.val) r e)
  blk_ext! [blk1, idx1 t]
  · exact Nat.add_zero _
  · exact Nat.add_zero _

/-- The other operands' blocks are their arrays. -/
theorem blk_1 (t : Fin cfg1.N) : blk1 (U2 m) c 1 t = U2 m c main_call0_v7_0 := by blk_ext! [blk1, idx1 t]
theorem blk_2 (t : Fin cfg1.N) : blk1 (U2 m) c 2 t = U2 m c main_call0_v7_1 := by blk_ext! [blk1, idx1 t]
theorem blk_3 (t : Fin cfg1.N) : blk1 (U2 m) c 3 t = U2 m c main_call0_v7_2 := by blk_ext! [blk1, idx1 t]
theorem blk_4 (t : Fin cfg1.N) : blk1 (U2 m) c 4 t = U2 m c main_call0_v3 := by blk_ext! [blk1, idx1 t]
theorem blk_5 (t : Fin cfg1.N) : blk1 (U2 m) c 5 t = U2 m c main_call0_v5 := by blk_ext! [blk1, idx1 t]

/-- The memory after point `n`: after a batch's first step only the later half's slots. -/
def mm (n : ℕ) (h : n < 12) (d : Fin 1024) (s : Fin 8) : ℝ := if n % 3 = 0 ∧ s.val < 4 then 0 else memory a (bat n h) s d

/-- The memory that a point starts from. -/
def ms (n : ℕ) (h : n < 12) (d : Fin 1024) (s : Fin 8) : ℝ := if n % 3 = 0 then 0 else mm a (n - 1) (by omega) d s

/-- A step adds the slots of its half. -/
theorem mm_step (n : ℕ) (h : n < 12) (d : Fin 1024) (s : Fin 8) :
    ms a n h d s + addend (cols ⟨n % 3, by omega⟩ (fun r e => a.X (bat n h) (row (wh n) r) e) (wsc a) a.Wv) a.wm d s = mm a n h d s := by
  have h3 : n % 3 = 0 ∨ n % 3 = 1 ∨ n % 3 = 2 := by omega
  unfold ms mm
  by_cases hown : s.val / 4 = 1 - n % 3 ∧ n % 3 < 2
  · rw [addend_memory a (bat n h) ⟨n % 3, by omega⟩ (wh n) (by simp only [wh]; omega) s (by simp only [wh]; omega)]
    rcases h3 with e | e | e
    · rw [if_pos e, if_neg (by omega), zero_add]
    · rw [if_neg (by omega), if_pos (by omega), if_neg (by omega), zero_add]
    · omega
  · rw [addend_zero _ _ _ _ _ s (by intro r; unfold owns; dsimp only; omega), add_zero]
    rcases h3 with e | e | e
    · rw [if_pos e, if_pos (by omega)]
    · rw [if_neg (by omega), if_neg (by omega), if_neg (by omega)]
      exact congrArg (fun b => memory a b s d) (Fin.ext (by simp only [bat]; omega))
    · rw [if_neg (by omega), if_neg (by omega), if_neg (by omega)]
      exact congrArg (fun b => memory a b s d) (Fin.ext (by simp only [bat]; omega))

/-- The memory that a point starts from, given the memory after the point before. -/
theorem start_real (t : Fin cfg1.N) (ht : t.val < 12) (M : Vec Ideal S1024x8 .f32)
    (hM : t.val % 3 ≠ 0 → ∀ d s, M (ix2 d s) = ((mm a (t.val - 1) (by omega) d s : ℝ) : EReal)) (d : Fin 1024) (s : Fin 8) :
    memIn (grid1.coords t) M (ix2 d s) = ((ms a t.val ht d s : ℝ) : EReal) := by
  unfold memIn ms
  by_cases e : t.val % 3 = 0
  · rw [if_pos ((step1 t).2.2.mpr e), if_pos e]
    pointwise [k1_pay4]
    exact EReal.coe_zero.symm
  · rw [if_neg (fun h => e ((step1 t).2.2.mp h)), if_neg e, hM e]

/-- The memory after every point. -/
theorem mem_at (h : Holds m c a) : ∀ (n : ℕ) (hn : n < 12) (d : Fin 1024) (s : Fin 8),
    memAt (U2 m) c (n + 1) (ix2 d s) = ((mm a n hn d s : ℝ) : EReal) := by
  intro n
  induction n with
  | zero =>
    intro hn d s
    have hN : 0 < cfg1.N := by decide +kernel
    have e := memAt_succ (U2 m) c ⟨0, hN⟩
    rw [show (0 : ℕ) + 1 = (⟨0, hN⟩ : Fin cfg1.N).val + 1 from rfl, e, ← mm_step]
    exact memOut_real (grid1.coords ⟨0, hN⟩) _ (step1 ⟨0, hN⟩).1 _ _ _ _ _ _ _ _ _ _ (blk_x m c a h ⟨0, hN⟩ hn)
      (fun e cc => by rw [blk_1]; exact fused_score m c a h e cc) (fun d e => by rw [blk_3]; exact fused_value m c a h d e)
      (fun d s => by rw [blk_5]; exact fused_w m c a h d s) (start_real a ⟨0, hN⟩ hn _ (fun h0 => absurd rfl h0)) d s
  | succ n ih =>
    intro hn d s
    have hN : n + 1 < cfg1.N := by
      have : cfg1.N = 12 := by decide +kernel
      omega
    have e := memAt_succ (U2 m) c ⟨n + 1, hN⟩
    rw [show n + 1 + 1 = (⟨n + 1, hN⟩ : Fin cfg1.N).val + 1 from rfl, e, ← mm_step]
    exact memOut_real (grid1.coords ⟨n + 1, hN⟩) _ (step1 ⟨n + 1, hN⟩).1 _ _ _ _ _ _ _ _ _ _ (blk_x m c a h ⟨n + 1, hN⟩ hn)
      (fun e cc => by rw [blk_1]; exact fused_score m c a h e cc) (fun d e => by rw [blk_3]; exact fused_value m c a h d e)
      (fun d s => by rw [blk_5]; exact fused_w m c a h d s) (start_real a ⟨n + 1, hN⟩ hn _ (fun _ => ih (by omega))) d s

/-- The output block of every point after a batch's first. -/
theorem out_at (h : Holds m c a) (t : Fin cfg1.N) (ht : t.val < 12) (h1 : 1 ≤ t.val % 3) (r : Fin 2048) (d : Fin 1024) :
    outAt (U2 m) c t (ix4 0 0 r d) = ((res a (bat t.val ht) (row (rh t.val) r) d : ℝ) : EReal) := by
  have hN : t.val - 1 < cfg1.N := by omega
  have hp : ∀ r e, prevAt (U2 m) c t.val (ix2 r e) = ((a.X (bat t.val ht) (row (rh t.val) r) e : ℝ) : EReal) := by
    intro r e
    have e1 : prevAt (U2 m) c t.val = keep (blk1 (U2 m) c 0 ⟨t.val - 1, hN⟩) := dif_pos hN
    rw [e1]
    pointwise [keep, k1_pay3, k1_pay10]
    refine (blk_x m c a h ⟨t.val - 1, hN⟩ (by dsimp only; omega) r e).trans ?_
    have eb : bat (t.val - 1) (by omega) = bat t.val ht := Fin.ext (by simp only [bat]; omega)
    have eh : wh (t.val - 1) = rh t.val := Fin.ext (by simp only [wh, rh]; omega)
    dsimp only
    rw [eb, eh]
  have hM := start_real a t ht (memAt (U2 m) c t.val) (fun h0 => by
    have := mem_at m c a h (t.val - 1) (by omega)
    rwa [show t.val - 1 + 1 = t.val by omega] at this)
  unfold outAt
  refine (readOut_real (grid1.coords t) ⟨t.val % 3, by omega⟩ (step1 t).1 h1 (fun r e => a.X (bat t.val ht) (row (rh t.val) r) e) (wqk a)
    (fun k d => a.Rkv (hi d) k) (ms a t.val ht) _ _ _ _ (fun d e => by rw [blk_2]; exact fused_read m c a h d e)
    (fun k d => by rw [blk_4]; exact fused_v m c a h k d) hM hp r d).trans ?_
  rw [att_out a (bat t.val ht) ⟨t.val % 3, by omega⟩ (rh t.val) (by simp only [rh]; omega) (ms a t.val ht) ?_ r d]
  · rfl
  · intro d s hs
    simp only [rh] at hs
    unfold ms mm
    rw [if_neg (by omega), if_neg (by omega)]
    exact congrArg (fun b => memory a b s d) (Fin.ext (by simp only [bat]; omega))

end Cert.KerValue

end
-- ==== Proof.KerCovMem.lean ====
module

public import proofs.«01_k».proof.Proof.KerFused

@[expose] public section

set_option maxRecDepth 16384
set_option maxHeartbeats 400000

noncomputable section

/-! The memory array from its blocks. -/

namespace Cert.KerValue

open Cert.KernelIdeal Cert.KernelIdeal.Gen Cert.KernelIdeal.Body Idealize.ShloMosaic Idealize.ShloMosaic.TcCoe Cert.Spec Cert.Words
open Idealize.ShloMosaic.Pipeline (Dat)

variable (V : (c : Dev nD) → (b : Ref sig .tc) → Buf (Elt Ideal) ((c : Thread nD τ).loc b)) (c : Dev nD)

/-- The memory array is what the memory is after every batch's last step. -/
theorem mem_cover (G : S4x1024x8.Idx → EReal)
    (hG : ∀ (t : Fin cfg1.N) (ht : t.val < 12), t.val % 3 = 2 → ∀ d s, memAt V c (t.val + 1) (ix2 d s) = G (ix3 (bat t.val ht) d s)) :
    (dat1 V c).arrAt 7 cfg1.N = G := by
  refine (dat1 V c).arrAt_eq_of_covers 7 _ (by decide +kernel) fun t hf y => ?_
  blk_simp
  dsimp only [dat1]
  idx_vars y
  pointwise [k1_pay2]
  have h := hG t (step1 t).2.1 (flush_mem t hf) y1 y2
  refine h.trans (congrArg G ?_)
  blk_ext [idx1 t]
  rfl

end Cert.KerValue

end
-- ==== Proof.KerCovOut.lean ====
module

public import proofs.«01_k».proof.Proof.KerFused

@[expose] public section

set_option maxRecDepth 16384
set_option maxHeartbeats 400000

noncomputable section

/-! The output array from its blocks. -/

namespace Cert.KerValue

open Cert.KernelIdeal Cert.KernelIdeal.Gen Cert.KernelIdeal.Body Idealize.ShloMosaic Idealize.ShloMosaic.TcCoe Cert.Spec Cert.Words
open Idealize.ShloMosaic.Pipeline (Dat)

/-- Where step `t` puts the entry `(0, 0, r, d)` of its output block. -/
theorem emb_out (t : Fin cfg1.N) (y : ((cfg1.win 6).xblock (cfg1.grid.coords t)).Idx) (r : Fin 2048) (d : Fin 1024)
    (h0 : (y 0).val = 0) (h1 : (y 1).val = 0) (h2 : (y 2).val = r.val) (h3 : (y 3).val = d.val) :
    (((cfg1.win 6).blk t).view.emb y : S4x2x2048x1024.Idx) = ix4 (bat t.val (step1 t).2.1) (rh t.val) r d := by
  blk_ext [idx1 t]
  · rfl
  · rfl

/-- The output array from the blocks, for any run data over this launch. -/
theorem out_cover_of (c : Dev nD) (D : Dat τ (Elt Ideal) Unit ℕ (UR sig nD τ) ℕ cfg1 c) (O : Fin cfg1.N → S1x1x2048x1024.Idx → EReal)
    (hD : ∀ t, D.after 6 t = O t) (G : S4x2x2048x1024.Idx → EReal)
    (hG : ∀ (t : Fin cfg1.N) (ht : t.val < 12), 1 ≤ t.val % 3 → ∀ r d, O t (ix4 0 0 r d) = G (ix4 (bat t.val ht) (rh t.val) r d)) :
    D.arrAt 6 cfg1.N = G := by
  refine D.arrAt_eq_of_covers 6 _ (by decide +kernel) fun t hf y => ?_
  rw [hD t]
  have h := hG t (step1 t).2.1 (flush_out t hf) (y 2) (y 3)
  have e0 : (y 0).val = 0 := Nat.lt_one_iff.mp (y 0).isLt
  have e1 : (y 1).val = 0 := Nat.lt_one_iff.mp (y 1).isLt
  have hy : (cfg1.win 6).xinj (cfg1.grid.coords t) y = (ix4 0 0 (y 2) (y 3) : S1x1x2048x1024.Idx) := by
    funext k; apply Fin.ext; fin_cases k
    · exact e0
    · exact e1
    · rfl
    · rfl
  rw [emb_out t y (y 2) (y 3) e0 e1 rfl rfl, ← h, ← hy]
  rfl

variable (V : (c : Dev nD) → (b : Ref sig .tc) → Buf (Elt Ideal) ((c : Thread nD τ).loc b)) (c : Dev nD)

/-- The output array is what the last two steps of every batch leave, each its half. -/
theorem out_cover (G : S4x2x2048x1024.Idx → EReal)
    (hG : ∀ (t : Fin cfg1.N) (ht : t.val < 12), 1 ≤ t.val % 3 → ∀ r d, outAt V c t (ix4 0 0 r d) = G (ix4 (bat t.val ht) (rh t.val) r d)) :
    (dat1 V c).arrAt 6 cfg1.N = G :=
  out_cover_of c (dat1 V c) (outAt V c) (fun t => by dsimp only [dat1]) G hG

end Cert.KerValue

end
-- ==== Proof.KerOut.lean ====
module

public import proofs.«01_k».proof.Proof.KerCovMem
public import proofs.«01_k».proof.Proof.KerCovOut

@[expose] public section

set_option maxRecDepth 16384
set_option maxHeartbeats 400000

noncomputable section

/-! The two results of the kernel over the real numbers. -/

namespace Cert.KerValue

open Cert.KernelIdeal Cert.KernelIdeal.Gen Cert.KernelIdeal.Body Idealize.ShloMosaic Idealize.ShloMosaic.TcCoe Cert.Spec Cert.Words
open Idealize.ShloMosaic.Pipeline (Dat)

variable (m : (ℓ : Loc nD τ sig) → Buf (Elt Ideal) ℓ) (c : Dev nD) (a : In)

/-- The fused call's output array. -/
theorem out_array (h : Holds m c a) :
    (dat1 (U2 m) c).arrAt 6 cfg1.N = fun i : S4x2x2048x1024.Idx => ((res a (i 0) (row (i 1) (i 2)) (i 3) : ℝ) : EReal) :=
  out_cover (U2 m) c (fun i => ((res a (i 0) (row (i 1) (i 2)) (i 3) : ℝ) : EReal))
    fun t ht h1 r d => out_at m c a h t ht h1 r d

/-- The fused call's memory array. -/
theorem mem_array (h : Holds m c a) :
    (dat1 (U2 m) c).arrAt 7 cfg1.N = fun i : S4x1024x8.Idx => ((memory a (i 0) (i 2) (i 1) : ℝ) : EReal) :=
  mem_cover (U2 m) c (fun i => ((memory a (i 0) (i 2) (i 1) : ℝ) : EReal))
    fun t ht h2 d s => by
      rw [mem_at m c a h t.val ht d s, mm, if_neg (by omega)]
      rfl

/-- What the host reshapes after the calls. -/
theorem last_out (h : Holds m c a) : V3 m (outs m) c main_call0_v8_0
    = fun i : S4x2x2048x1024.Idx => ((res a (i 0) (row (i 1) (i 2)) (i 3) : ℝ) : EReal) := by
  rw [V3_eq]
  exact (U3_v8_0 m c).trans (out_array m c a h)

/-- What the host transposes after the calls. -/
theorem last_mem (h : Holds m c a) : V3 m (outs m) c main_call0_v8_1
    = fun i : S4x1024x8.Idx => ((memory a (i 0) (i 2) (i 1) : ℝ) : EReal) := by
  rw [V3_eq]
  exact (U3_v8_1 m c).trans (mem_array m c a h)

/-- The kernel's first result. -/
theorem end_out (h : Holds m c a) (b : Fin 4) (q : Fin 4096) (d : Fin 1024) :
    V4 m (outs m) c main_v0_0 (ix3 b q d) = ((res a b q d : ℝ) : EReal) := by
  have e := last_out m c a h
  unfold V4
  generalize V3 m (outs m) c = V at e ⊢
  entry_read
  rw [e]
  pointwise
  exact congrArg (fun k => ((res a b k d : ℝ) : EReal)) (Fin.ext (by simp only [row]; omega))

/-- The kernel's second result. -/
theorem end_mem (h : Holds m c a) (b : Fin 4) (s : Fin 8) (d : Fin 1024) :
    V4 m (outs m) c main_v0_1 (ix3 b s d) = ((memory a b s d : ℝ) : EReal) := by
  have e := last_mem m c a h
  unfold V4
  generalize V3 m (outs m) c = V at e ⊢
  entry_read
  rw [e]
  refine Eq.trans (b := (transpose S4x8x1024 [0, 2, 1]
    (show FVec Ideal S4x1024x8 .f32 from fun i => ((memory a (i 0) (i 2) (i 1) : ℝ) : EReal))
    transposes_S4x1024x8_S4x8x1024_0_2_1 : FVec Ideal S4x8x1024 .f32) (ix3 b s d)) rfl ?_
  pointwise

end Cert.KerValue

end
-- ==== Proof.Finite.lean ====
module

public import proofs.«01_k».proof.Defs
public import proofs.«01_k».proof.Proof.Gen.Pre_finite
public import proofs.«01_k».proof.Proof.KerEntry
public import Idealize.ShloMosaic.Lib.ReduceAll

@[expose] public section

set_option maxRecDepth 16384
set_option maxHeartbeats 400000

noncomputable section

/-! What the precondition says: every entry of every argument is a real number. -/

namespace Cert.Finite

open Idealize.ShloMosaic Idealize.ShloMosaic.TcCoe Cert.Pre_finite Cert.Pre_finite.Gen

/-- A number whose absolute value lies below the largest one is real. -/
theorem real_of_abs_lt {x : EReal} (h : max x (-x) < ⊤) : x = ((x.toReal : ℝ) : EReal) := by
  induction x with
  | bot => simp at h
  | top => simp at h
  | coe r => rfl

/-- The word for the largest number. -/
theorem ctop : Ideal.ofBits .f32 0x7F800000#32 = (⊤ : EReal) := by
  simp [Ideal.ofBits, Ideal.ieee]

/-- If every entry's absolute value compares below the largest number, every entry is real. -/
theorem all_real {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant S_ .f32 0x7F800000#32))) (constantI S_ 1 1#1) hr h_S_
      = fun _ => 1#1) (i : s.Idx) : x i = (((x i : EReal).toReal : ℝ) : EReal) := by
  have e : Ideal.cmp .olt (max (x i : EReal) (-(x i : EReal))) (Ideal.ofBits .f32 0x7F800000#32) = 1#1 :=
    Host.reduce_andi_all _ _ _ _ (fun k => k.elim0) (congrFun h _) i
  rw [ctop] at e
  refine real_of_abs_lt (by_contra fun hn => ?_)
  rw [Ideal.cmp, decide_eq_false hn] at e
  exact absurd e (by decide)

/-- An `and` of two words is 1 only if both are. -/
theorem and_split {x y : IVec S_ 1} (h : andi x y = fun _ => 1#1) : x = (fun _ => 1#1) ∧ y = (fun _ => 1#1) := by
  have key : ∀ p q : BitVec 1, IntOp.andi p q = 1#1 → p = 1#1 ∧ q = 1#1 := by decide
  exact ⟨funext fun j => (key _ _ (congrFun h j)).1, funext fun j => (key _ _ (congrFun h j)).2⟩

/-- The precondition, array by array. -/
theorem arrays (x0 : FVec Ideal S4x4096x1024 .f32) (x1 : FVec Ideal S8x1024 .f32) (x2 : FVec Ideal S1024x1024 .f32) (x3 : FVec Ideal S2048x1024 .f32)
    (x4 x5 x6 : FVec Ideal S1024x1024 .f32) (x7 : FVec Ideal S1024 .f32) (h : fn (F := Ideal) x0 x1 x2 x3 x4 x5 x6 x7 = fun _ => 1#1) :
    (∀ i, x0 i = (((x0 i : EReal).toReal : ℝ) : EReal)) ∧ (∀ i, x1 i = (((x1 i : EReal).toReal : ℝ) : EReal))
    ∧ (∀ i, x2 i = (((x2 i : EReal).toReal : ℝ) : EReal)) ∧ (∀ i, x3 i = (((x3 i : EReal).toReal : ℝ) : EReal))
    ∧ (∀ i, x4 i = (((x4 i : EReal).toReal : ℝ) : EReal)) ∧ (∀ i, x5 i = (((x5 i : EReal).toReal : ℝ) : EReal))
    ∧ (∀ i, x6 i = (((x6 i : EReal).toReal : ℝ) : EReal)) ∧ (∀ i, x7 i = (((x7 i : EReal).toReal : ℝ) : EReal)) := by
  unfold fn fn_part1 fn_part2 at h
  obtain ⟨h, h7⟩ := and_split h
  obtain ⟨h, h6⟩ := and_split h
  obtain ⟨h, h5⟩ := and_split h
  obtain ⟨h, h4⟩ := and_split h
  obtain ⟨h, h3⟩ := and_split h
  obtain ⟨h, h2⟩ := and_split h
  obtain ⟨h0, h1⟩ := and_split h
  exact ⟨all_real x0 _ _ h0, all_real x1 _ _ h1, all_real x2 _ _ h2, all_real x3 _ _ h3,
    all_real x4 _ _ h4, all_real x5 _ _ h5, all_real x6 _ _ h6, all_real x7 _ _ h7⟩

open Cert.KernelIdeal in
/-- The real tables in a core's arguments. -/
def tables (m : (ℓ : Loc nD τ sig) → Buf (Elt Ideal) ℓ) (c : Dev nD) : Cert.Spec.In where
  X b t e := (show EReal from m ((c : Thread nD τ).loc main_arg0) (ix3 b t e)).toReal
  Q s e := (show EReal from m ((c : Thread nD τ).loc main_arg1) (ix2 s e)).toReal
  Rq d e := (show EReal from m ((c : Thread nD τ).loc main_arg2) (ix2 d e)).toReal
  Rkv d e := (show EReal from m ((c : Thread nD τ).loc main_arg3) (ix2 d e)).toReal
  Wq d e := (show EReal from m ((c : Thread nD τ).loc main_arg4) (ix2 d e)).toReal
  Wk d e := (show EReal from m ((c : Thread nD τ).loc main_arg5) (ix2 d e)).toReal
  Wv d e := (show EReal from m ((c : Thread nD τ).loc main_arg6) (ix2 d e)).toReal
  wm d := (show EReal from m ((c : Thread nD τ).loc main_arg7) (ix1 d)).toReal

/-- Under the precondition the arguments are those tables. -/
theorem holds (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KerValue.Holds m c (tables m c) := by
  obtain ⟨h0, h1, h2, h3, h4, h5, h6, h7⟩ := arrays _ _ _ _ _ _ _ _ (h c)
  exact ⟨fun b t e => h0 (ix3 b t e), fun s e => h1 (ix2 s e), fun d e => h2 (ix2 d e), fun d e => h3 (ix2 d e),
    fun d e => h4 (ix2 d e), fun d e => h5 (ix2 d e), fun d e => h6 (ix2 d e), fun d => h7 (ix1 d)⟩

end Cert.Finite

end
-- ==== Proof.RefWrite.lean ====
module

public import proofs.«01_k».proof.Proof.Spec
public import proofs.«01_k».proof.Proof.Gen.ReferenceIdeal.Run
public import proofs.«01_k».proof.Proof.Gen.ReferenceIdeal.Read

@[expose] public section

set_option maxRecDepth 16384

noncomputable section

/-! The reference's memory over real arguments is the memory over the real numbers. -/

namespace Cert.RefValue

open Cert.ReferenceIdeal Cert.ReferenceIdeal.Gen Cert.ReferenceIdeal.Read Idealize.ShloMosaic Cert.Spec

variable (a : In)

/-- The arguments as the program holds them. -/
abbrev A0 : (⟨S4x4096x1024, .f32⟩ : BufTy).Contents (Elt Ideal) := fun i => ((a.X (i 0) (i 1) (i 2) : ℝ) : EReal)
@[inherit_doc A0] abbrev A1 : (⟨S8x1024, .f32⟩ : BufTy).Contents (Elt Ideal) := fun i => ((a.Q (i 0) (i 1) : ℝ) : EReal)
@[inherit_doc A0] abbrev A2 : (⟨S1024x1024, .f32⟩ : BufTy).Contents (Elt Ideal) := fun i => ((a.Rq (i 0) (i 1) : ℝ) : EReal)
@[inherit_doc A0] abbrev A3 : (⟨S2048x1024, .f32⟩ : BufTy).Contents (Elt Ideal) := fun i => ((a.Rkv (i 0) (i 1) : ℝ) : EReal)
@[inherit_doc A0] abbrev A4 : (⟨S1024x1024, .f32⟩ : BufTy).Contents (Elt Ideal) := fun i => ((a.Wq (i 0) (i 1) : ℝ) : EReal)
@[inherit_doc A0] abbrev A5 : (⟨S1024x1024, .f32⟩ : BufTy).Contents (Elt Ideal) := fun i => ((a.Wk (i 0) (i 1) : ℝ) : EReal)
@[inherit_doc A0] abbrev A6 : (⟨S1024x1024, .f32⟩ : BufTy).Contents (Elt Ideal) := fun i => ((a.Wv (i 0) (i 1) : ℝ) : EReal)
@[inherit_doc A0] abbrev A7 : (⟨S1024, .f32⟩ : BufTy).Contents (Elt Ideal) := fun i => ((a.wm (i 0) : ℝ) : EReal)

theorem congr3 {α β γ δ : Type} (f : α → β → γ → δ) {x x' : α} {y y' : β} {z z' : γ} (h : x = x') (h' : y = y') (h'' : z = z') :
    f x y z = f x' y' z' := by rw [h, h', h'']

theorem v2 (i : S4x8x512x1024.Idx) :
    val_main_v2 (F := Ideal) (A0 a) (A5 a) i = ((key a (i 0) (tok (i 1) (i 2)) (i 3) : ℝ) : EReal) := by
  have h0 : (i 0).val < 4 := (i 0).isLt
  have h1 : (i 1).val < 8 := (i 1).isLt
  have h2 : (i 2).val < 512 := (i 2).isLt
  rw [val_main_v2_apply]
  unfold key
  rw [← coe_dot]
  refine Finset.sum_congr rfl fun k _ => ?_
  rw [val_main_v0_apply, val_main_v1_apply]
  refine congrArg₂ (· * ·) (congrArg Real.toEReal (congr3 a.X ?_ ?_ ?_)) rfl
  all_goals (apply Fin.ext; have := k.isLt; simp [tok]; try omega)

theorem v5 (i : S4x8x512x1024.Idx) :
    val_main_v5 (F := Ideal) (A0 a) (A6 a) i = ((val a (i 0) (tok (i 1) (i 2)) (i 3) : ℝ) : EReal) := by
  have h0 : (i 0).val < 4 := (i 0).isLt
  have h1 : (i 1).val < 8 := (i 1).isLt
  have h2 : (i 2).val < 512 := (i 2).isLt
  rw [val_main_v5_apply]
  unfold val
  rw [← coe_dot]
  refine Finset.sum_congr rfl fun k _ => ?_
  rw [val_main_v0_apply, val_main_v4_apply]
  refine congrArg₂ (· * ·) (congrArg Real.toEReal (congr3 a.X ?_ ?_ ?_)) rfl
  all_goals (apply Fin.ext; have := k.isLt; simp [tok]; try omega)

theorem v8 (i : S8x1024.Idx) :
    val_main_v8 (F := Ideal) (A1 a) (A4 a) i = ((qw a (i 0) (i 1) : ℝ) : EReal) := by
  rw [val_main_v8_apply]
  unfold qw
  rw [← coe_dot]
  refine Finset.sum_congr rfl fun k _ => ?_
  rw [val_main_v7_apply]; rfl

theorem v3 (i : S4x8x512x8x128.Idx) :
    val_main_v3 (F := Ideal) (A0 a) (A5 a) i = ((key a (i 0) (tok (i 1) (i 2)) (feat (i 3) (i 4)) : ℝ) : EReal) := by
  have h0 : (i 0).val < 4 := (i 0).isLt
  have h1 : (i 1).val < 8 := (i 1).isLt
  have h2 : (i 2).val < 512 := (i 2).isLt
  have h3 : (i 3).val < 8 := (i 3).isLt
  have h4 : (i 4).val < 128 := (i 4).isLt
  rw [val_main_v3_apply, v2]
  refine congrArg Real.toEReal (congr3 (key a) ?_ ?_ ?_)
  all_goals (apply Fin.ext; simp [tok, feat]; try omega)

theorem v6 (i : S4x8x512x8x128.Idx) :
    val_main_v6 (F := Ideal) (A0 a) (A6 a) i = ((val a (i 0) (tok (i 1) (i 2)) (feat (i 3) (i 4)) : ℝ) : EReal) := by
  have h0 : (i 0).val < 4 := (i 0).isLt
  have h1 : (i 1).val < 8 := (i 1).isLt
  have h2 : (i 2).val < 512 := (i 2).isLt
  have h3 : (i 3).val < 8 := (i 3).isLt
  have h4 : (i 4).val < 128 := (i 4).isLt
  rw [val_main_v6_apply, v5]
  refine congrArg Real.toEReal (congr3 (val a) ?_ ?_ ?_)
  all_goals (apply Fin.ext; simp [tok, feat]; try omega)

theorem v9 (i : S8x8x128.Idx) :
    val_main_v9 (F := Ideal) (A1 a) (A4 a) i = ((qw a (i 0) (feat (i 1) (i 2)) : ℝ) : EReal) := by
  have h0 : (i 0).val < 8 := (i 0).isLt
  have h1 : (i 1).val < 8 := (i 1).isLt
  have h2 : (i 2).val < 128 := (i 2).isLt
  rw [val_main_v9_apply, v8]
  refine congrArg Real.toEReal (congrArg₂ (qw a) ?_ ?_)
  all_goals (apply Fin.ext; simp [feat]; try omega)

theorem v14 (i : S4x8x8x512.Idx) :
    val_main_v14 (F := Ideal) (A0 a) (A1 a) (A4 a) (A5 a) i = ((score a (i 0) (i 1) (i 2) (i 3) : ℝ) : EReal) := by
  rw [val_main_v14_apply, val_main_v13_apply, val_main_v12_apply, val_main_cst_apply, val_main_v11_apply, val_main_v10_apply]
  have e : (FloatOps.ofBits .f32 0x43000000#32 : Ideal .f32) = ((128 : ℝ) : EReal) := c128
  rw [e]
  have e2 : (FloatOps.hostUnary .sqrt ((128 : ℝ) : EReal) : Ideal .f32) = ((Real.sqrt 128 : ℝ) : EReal) := by
    show Ideal.sqrt ((128 : ℝ) : EReal) = _
    rw [Ideal.sqrt_coe, if_neg (by norm_num)]
  show Ideal.div _ (FloatOps.hostUnary .sqrt ((128 : ℝ) : EReal) : Ideal .f32) = _
  rw [e2]
  unfold score
  have e3 : (∑ k : Fin 128, val_main_v3 (F := Ideal) (A0 a) (A5 a) (lidx_main_v10 (idx_main_v11 i) k) * val_main_v9 (F := Ideal) (A1 a) (A4 a) (ridx_main_v10 (idx_main_v11 i) k))
      = ((∑ e, qw a (i 1) (feat (i 2) e) * key a (i 0) (tok (i 1) (i 3)) (feat (i 2) e) : ℝ) : EReal) := by
    rw [← coe_dot]
    refine Finset.sum_congr rfl fun k _ => ?_
    rw [v3, v9, mul_comm]; rfl
  rw [e3, div_real _ _ (Real.sqrt_ne_zero'.mpr (by norm_num))]

/-- The maximum over the tokens of a segment, as a fold. -/
theorem v15 (i : S4x8x8.Idx) :
    val_main_v15 (F := Ideal) (A0 a) (A1 a) (A4 a) (A5 a) i
      = Finset.univ.fold max ⊥ (fun l : Fin 512 => ((score a (i 0) (i 1) (i 2) l : ℝ) : EReal)) := by
  have e : val_main_v14 (F := Ideal) (A0 a) (A1 a) (A4 a) (A5 a) = fun i => ((score a (i 0) (i 1) (i 2) (i 3) : ℝ) : EReal) := funext (v14 a)
  unfold val_main_v15
  rw [e]
  idx_vars i
  pointwise [val_main_cst_0]
  rw [cbot]

theorem v21 (i : S4x8x8x512.Idx) :
    val_main_v21 (F := Ideal) (A0 a) (A1 a) (A4 a) (A5 a) i
      = Ideal.exp (((score a (i 0) (i 1) (i 2) (i 3) : ℝ) : EReal)
        - Finset.univ.fold max ⊥ (fun l : Fin 512 => ((score a (i 0) (i 1) (i 2) l : ℝ) : EReal))) := by
  rw [val_main_v21_apply, val_main_v20_apply, val_main_v19_apply, val_main_v18_apply, val_main_v17_apply,
    val_main_v16_apply, val_main_cst_1_apply, v14, v15]
  have e : (FloatOps.ofBits .f32 0xFF800000#32 : Ideal .f32) = (⊥ : EReal) := cbot
  rw [e, Ideal.maximumf_def, max_bot_left]
  rfl

theorem v25 (i : S4x8x8x512.Idx) :
    val_main_v25 (F := Ideal) (A0 a) (A1 a) (A4 a) (A5 a) i = ((wattn a (i 0) (i 1) (i 2) (i 3) : ℝ) : EReal) := by
  rw [val_main_v25_apply, val_main_v24_apply, val_main_v23_apply, val_main_v22_apply, val_main_cst_2_apply]
  obtain ⟨m, hm, hs, he⟩ := soft (fun _ : Fin 512 => True) (score a (i 0) (i 1) (i 2)) ⟨0, trivial⟩
    (fun l => ((score a (i 0) (i 1) (i 2) l : ℝ) : EReal)) (fun l => (if_pos trivial).symm)
  have e21 : ∀ l : Fin 512, ∀ j : S4x8x8x512.Idx, j 0 = i 0 → j 1 = i 1 → j 2 = i 2 → j 3 = l →
      val_main_v21 (F := Ideal) (A0 a) (A1 a) (A4 a) (A5 a) j
        = ((if True then Real.exp (score a (i 0) (i 1) (i 2) l - m) else 0 : ℝ) : EReal) := by
    intro l j h0 h1 h2 h3
    rw [v21, h0, h1, h2, h3, hm, ← he l]
  have e3 : (∑ k : Fin 512, val_main_v21 (F := Ideal) (A0 a) (A1 a) (A4 a) (A5 a) (idx_main_v22 (idx_main_v23 (idx_main_v24 i)) k))
      = ((∑ l, (if True then Real.exp (score a (i 0) (i 1) (i 2) l - m) else 0) : ℝ) : EReal) := by
    rw [coe_sum]
    exact Finset.sum_congr rfl fun k _ => e21 k _ rfl rfl rfl rfl
  have z : (FloatOps.ofBits .f32 0x00000000#32 : Ideal .f32) = (0 : EReal) := Ideal.ofBits_zero_f32
  rw [e3, e21 (i 3) i rfl rfl rfl rfl, z]
  exact soft_quot _ _ m (i 3) hs

theorem v26 (i : S4x8x8x128.Idx) :
    val_main_v26 (F := Ideal) (A0 a) (A1 a) (A4 a) (A5 a) (A6 a) i = ((mem a (i 0) (i 1) (feat (i 2) (i 3)) : ℝ) : EReal) := by
  have h3 : (i 3).val < 128 := (i 3).isLt
  rw [val_main_v26_apply]
  unfold mem
  rw [← coe_dot]
  refine Finset.sum_congr rfl fun k _ => ?_
  have hh : head (feat (i 2) (i 3)) = i 2 := by apply Fin.ext; simp only [head, feat]; omega
  rw [v25, v6, hh]
  rfl

theorem v30 (i : S4x8x1024.Idx) :
    val_main_v30 (F := Ideal) (A0 a) (A1 a) (A4 a) (A5 a) (A6 a) (A7 a) i = ((raw a (i 0) (i 1) (i 2) : ℝ) : EReal) := by
  have h0 : (i 0).val < 4 := (i 0).isLt
  have h1 : (i 1).val < 8 := (i 1).isLt
  have h2 : (i 2).val < 1024 := (i 2).isLt
  rw [val_main_v30_apply, val_main_v27_apply, v26, val_main_v29_apply, val_main_v28_apply]
  unfold raw
  rw [EReal.coe_mul]
  refine congrArg₂ (· * ·) (congrArg Real.toEReal (congr3 (mem a) ?_ ?_ ?_)) rfl
  all_goals (apply Fin.ext; simp [feat]; try omega)

/-- The reference's second result. -/
theorem v40 (i : S4x8x1024.Idx) :
    val_main_v40 (F := Ideal) (A0 a) (A1 a) (A4 a) (A5 a) (A6 a) (A7 a) i = ((memory a (i 0) (i 1) (i 2) : ℝ) : EReal) := by
  rw [val_main_v40_apply, val_main_v39_apply, val_main_v38_apply, val_main_v37_apply, val_main_v36_apply, val_main_cst_5_apply,
    val_main_v35_apply, val_main_v34_apply, val_main_cst_4_apply, val_main_v33_apply, val_main_v32_apply, val_main_cst_3_apply, v30]
  have e1 : (∑ k : Fin 1024, val_main_v31 (F := Ideal) (A0 a) (A1 a) (A4 a) (A5 a) (A6 a) (A7 a) (idx_main_v32 (idx_main_v33 (idx_main_v39 i)) k))
      = ((∑ e, raw a (i 0) (i 1) e * raw a (i 0) (i 1) e : ℝ) : EReal) := by
    rw [← coe_dot]
    refine Finset.sum_congr rfl fun k _ => ?_
    rw [val_main_v31_apply, v30]
    rfl
  rw [e1]
  have z : (FloatOps.ofBits .f32 0x00000000#32 : Ideal .f32) = (0 : EReal) := Ideal.ofBits_zero_f32
  have k : (FloatOps.ofBits .f32 0x44800000#32 : Ideal .f32) = ((1024 : ℝ) : EReal) := c1024
  have e : (FloatOps.ofBits .f32 0x358637BD#32 : Ideal .f32) = (eps : EReal) := eps_coe
  rw [z, k, e, zero_add]
  show _ * Ideal.rsqrt (Ideal.div _ _ + _) = _
  exact norm_real a _ _ _

end Cert.RefValue

end
-- ==== Proof.RefRead.lean ====
module

public import proofs.«01_k».proof.Proof.RefWrite
public import proofs.«01_k».proof.Proof.Words

@[expose] public section

set_option maxRecDepth 16384

noncomputable section

/-! The reference's output over real arguments is the output over the real numbers. -/

namespace Cert.RefValue

open Cert.ReferenceIdeal Cert.ReferenceIdeal.Gen Cert.ReferenceIdeal.Read Idealize.ShloMosaic Cert.Spec

variable (a : In)

theorem v42 (i : S4x4096x1024.Idx) :
    val_main_v42 (F := Ideal) (A0 a) (A2 a) i = ((rq a (i 0) (i 1) (i 2) : ℝ) : EReal) := by
  rw [val_main_v42_apply]
  unfold rq
  rw [← coe_dot]
  refine Finset.sum_congr rfl fun k _ => ?_
  rw [val_main_v41_apply]
  rfl

theorem v44 (i : S4x8x2048.Idx) :
    val_main_v44 (F := Ideal) (A0 a) (A1 a) (A3 a) (A4 a) (A5 a) (A6 a) (A7 a) i = ((rkv a (i 0) (i 1) (i 2) : ℝ) : EReal) := by
  rw [val_main_v44_apply]
  unfold rkv
  rw [← coe_dot]
  refine Finset.sum_congr rfl fun k _ => ?_
  rw [val_main_v43_apply, v40]
  rfl

theorem v45 (i : S4x8x1024.Idx) :
    val_main_v45 (F := Ideal) (A0 a) (A1 a) (A3 a) (A4 a) (A5 a) (A6 a) (A7 a) i = ((rkv a (i 0) (i 1) (lo (i 2)) : ℝ) : EReal) := by
  rw [val_main_v45_apply, v44]
  refine congrArg Real.toEReal (congr3 (rkv a) ?_ ?_ ?_)
  all_goals (apply Fin.ext; simp [lo])

theorem v46 (i : S4x8x1024.Idx) :
    val_main_v46 (F := Ideal) (A0 a) (A1 a) (A3 a) (A4 a) (A5 a) (A6 a) (A7 a) i = ((rkv a (i 0) (i 1) (hi (i 2)) : ℝ) : EReal) := by
  rw [val_main_v46_apply, v44]
  refine congrArg Real.toEReal (congr3 (rkv a) ?_ ?_ ?_)
  all_goals (apply Fin.ext; simp [hi]; try omega)

theorem v49 (i : S4x4096x8.Idx) :
    val_main_v49 (F := Ideal) (A0 a) (A1 a) (A2 a) (A3 a) (A4 a) (A5 a) (A6 a) (A7 a) i = ((rs a (i 0) (i 1) (i 2) : ℝ) : EReal) := by
  rw [val_main_v49_apply, val_main_v48_apply, val_main_cst_6_apply, val_main_v47_apply]
  have e : (FloatOps.ofBits .f32 0x42000000#32 : Ideal .f32) = ((32 : ℝ) : EReal) := c32
  have e3 : (∑ k : Fin 1024, val_main_v42 (F := Ideal) (A0 a) (A2 a) (lidx_main_v47 i k)
      * val_main_v45 (F := Ideal) (A0 a) (A1 a) (A3 a) (A4 a) (A5 a) (A6 a) (A7 a) (ridx_main_v47 i k))
      = ((∑ d, rq a (i 0) (i 1) d * rkv a (i 0) (i 2) (lo d) : ℝ) : EReal) := by
    rw [← coe_dot]
    refine Finset.sum_congr rfl fun k _ => ?_
    rw [v42, v45]; rfl
  rw [e, e3]
  exact div_real _ _ (by norm_num)

/-- The mask: a token reads its own segment's slot and the later ones. -/
theorem mask_eq (i : S4x4096x8.Idx) :
    val_main_v60 (F := Ideal) i = if (i 1).val / 512 ≤ (i 2).val then 1#1 else 0#1 := by
  have h1 : (i 1).val < 4096 := (i 1).isLt
  have h2 : (i 2).val < 8 := (i 2).isLt
  rw [val_main_v60_apply, val_main_v59_apply, val_main_v58_apply, val_main_v57_apply, val_main_v56_apply, val_main_v55_apply,
    val_main_v54_apply, val_main_v53_apply, val_main_v52_apply, val_main_v51_apply, val_main_v50_apply, val_main_c_apply]
  refine (congrArg₂ (IntOp.cmpi .sle) (Words.host_seg (i 1)) rfl).trans ?_
  exact Words.sle_word ⟨(i 1).val / 512, by omega⟩ (i 2)

theorem v62 (i : S4x4096x8.Idx) :
    val_main_v62 (F := Ideal) (A0 a) (A1 a) (A2 a) (A3 a) (A4 a) (A5 a) (A6 a) (A7 a) i
      = if (i 1).val / 512 ≤ (i 2).val then ((rs a (i 0) (i 1) (i 2) : ℝ) : EReal) else ⊥ := by
  rw [val_main_v62_apply, mask_eq, v49, val_main_v61_apply, val_main_cst_7_apply]
  have e : (FloatOps.ofBits .f32 0xFF800000#32 : Ideal .f32) = (⊥ : EReal) := cbot
  rw [e]
  by_cases h : (i 1).val / 512 ≤ (i 2).val
  · rw [if_pos h, if_pos h]; rfl
  · rw [if_neg h, if_neg h]; rfl

/-- The maximum over the slots, as a fold. -/
theorem v63 (i : S4x4096.Idx) :
    val_main_v63 (F := Ideal) (A0 a) (A1 a) (A2 a) (A3 a) (A4 a) (A5 a) (A6 a) (A7 a) i
      = Finset.univ.fold max ⊥ (fun s : Fin 8 => if (i 1).val / 512 ≤ s.val then ((rs a (i 0) (i 1) s : ℝ) : EReal) else ⊥) := by
  have e : val_main_v62 (F := Ideal) (A0 a) (A1 a) (A2 a) (A3 a) (A4 a) (A5 a) (A6 a) (A7 a)
      = fun i => if (i 1).val / 512 ≤ (i 2).val then ((rs a (i 0) (i 1) (i 2) : ℝ) : EReal) else ⊥ := funext (v62 a)
  unfold val_main_v63
  rw [e]
  idx_vars i
  pointwise [val_main_cst_8]
  rw [cbot]
  rfl

theorem v69 (i : S4x4096x8.Idx) :
    val_main_v69 (F := Ideal) (A0 a) (A1 a) (A2 a) (A3 a) (A4 a) (A5 a) (A6 a) (A7 a) i
      = Ideal.exp ((if (i 1).val / 512 ≤ (i 2).val then ((rs a (i 0) (i 1) (i 2) : ℝ) : EReal) else ⊥)
        - Finset.univ.fold max ⊥ (fun s : Fin 8 => if (i 1).val / 512 ≤ s.val then ((rs a (i 0) (i 1) s : ℝ) : EReal) else ⊥)) := by
  rw [val_main_v69_apply, val_main_v68_apply, val_main_v67_apply, val_main_v66_apply, val_main_v65_apply,
    val_main_v64_apply, val_main_cst_9_apply, v62, v63]
  have e : (FloatOps.ofBits .f32 0xFF800000#32 : Ideal .f32) = (⊥ : EReal) := cbot
  rw [e, Ideal.maximumf_def, max_bot_left]
  rfl

theorem v73 (i : S4x4096x8.Idx) :
    val_main_v73 (F := Ideal) (A0 a) (A1 a) (A2 a) (A3 a) (A4 a) (A5 a) (A6 a) (A7 a) i = ((rattn a (i 0) (i 1) (i 2) : ℝ) : EReal) := by
  have h1 : (i 1).val < 4096 := (i 1).isLt
  rw [val_main_v73_apply, val_main_v72_apply, val_main_v71_apply, val_main_v70_apply, val_main_cst_10_apply]
  obtain ⟨m, hm, hs, he⟩ := soft (fun s : Fin 8 => (i 1).val / 512 ≤ s.val) (rs a (i 0) (i 1)) ⟨⟨7, by omega⟩, by dsimp only; omega⟩
    (fun s => if (i 1).val / 512 ≤ s.val then ((rs a (i 0) (i 1) s : ℝ) : EReal) else ⊥) (fun l => rfl)
  have e21 : ∀ l : Fin 8, ∀ j : S4x4096x8.Idx, j 0 = i 0 → j 1 = i 1 → j 2 = l →
      val_main_v69 (F := Ideal) (A0 a) (A1 a) (A2 a) (A3 a) (A4 a) (A5 a) (A6 a) (A7 a) j
        = ((if (i 1).val / 512 ≤ l.val then Real.exp (rs a (i 0) (i 1) l - m) else 0 : ℝ) : EReal) := by
    intro l j h0 h1 h2
    rw [v69, h0, h1, h2, hm, ← he l]
  have e3 : (∑ k : Fin 8, val_main_v69 (F := Ideal) (A0 a) (A1 a) (A2 a) (A3 a) (A4 a) (A5 a) (A6 a) (A7 a) (idx_main_v70 (idx_main_v71 (idx_main_v72 i)) k))
      = ((∑ l : Fin 8, (if (i 1).val / 512 ≤ l.val then Real.exp (rs a (i 0) (i 1) l - m) else 0) : ℝ) : EReal) := by
    rw [coe_sum]
    exact Finset.sum_congr rfl fun k _ => e21 k _ rfl rfl rfl
  have z : (FloatOps.ofBits .f32 0x00000000#32 : Ideal .f32) = (0 : EReal) := Ideal.ofBits_zero_f32
  rw [e3, e21 (i 2) i rfl rfl rfl, z]
  exact soft_quot _ _ m (i 2) hs

theorem v74 (i : S4x4096x1024.Idx) :
    val_main_v74 (F := Ideal) (A0 a) (A1 a) (A2 a) (A3 a) (A4 a) (A5 a) (A6 a) (A7 a) i = ((out a (i 0) (i 1) (i 2) : ℝ) : EReal) := by
  rw [val_main_v74_apply]
  unfold out
  rw [← coe_dot]
  refine Finset.sum_congr rfl fun k _ => ?_
  rw [v73, v46]
  rfl

/-- The reference's first result. -/
theorem v81 (i : S4x4096x1024.Idx) :
    val_main_v81 (F := Ideal) (A0 a) (A1 a) (A2 a) (A3 a) (A4 a) (A5 a) (A6 a) (A7 a) i = ((res a (i 0) (i 1) (i 2) : ℝ) : EReal) := by
  rw [val_main_v81_apply, val_main_v80_apply, val_main_v79_apply, val_main_cst_12_apply, val_main_v78_apply, val_main_v77_apply,
    val_main_cst_11_apply, val_main_v76_apply, val_main_v75_apply, v74]
  have e : (FloatOps.ofBits .f32 0x3F800000#32 : Ideal .f32) = ((1 : ℝ) : EReal) := c1
  rw [e]
  exact silu_real _

end Cert.RefValue

end
-- ==== Proof.Value.lean ====
/-
  The value claim: over the extended reals, from memories agreeing on real arguments, the kernel and the reference end with equal results.
-/
module

public import proofs.«01_k».proof.Defs
public import proofs.«01_k».proof.Proof.EndKernelIdeal
public import proofs.«01_k».proof.Proof.KerOut
public import proofs.«01_k».proof.Proof.Finite
public import proofs.«01_k».proof.Proof.RefRead
public import Idealize.ShloMosaic.Lib.Claim

@[expose] public section

set_option maxRecDepth 16384
set_option maxHeartbeats 400000

noncomputable section

namespace Cert.Proof

open Idealize.ShloMosaic Idealize.ShloMosaic.TcCoe Idealize.SL.Sem Cert.Finite Cert.RefValue

/-- The two results over real tables: the output -/
def outV (a : Cert.Spec.In) : Cert.KernelIdeal.S4x4096x1024.Idx → EReal := fun i => ((Cert.Spec.res a (i 0) (i 1) (i 2) : ℝ) : EReal)
/-- and the memory. -/
def memV (a : Cert.Spec.In) : Cert.KernelIdeal.S4x8x1024.Idx → EReal := fun i => ((Cert.Spec.memory a (i 0) (i 1) (i 2) : ℝ) : EReal)

section
variable (m : (ℓ : Loc Cert.KernelIdeal.nD Cert.KernelIdeal.τ Cert.KernelIdeal.sig) → Buf (Elt Ideal) ℓ) (c : Dev Cert.KernelIdeal.nD)
  (a : Cert.Spec.In) (h : Cert.KerValue.Holds m c a)
include h

/-- The kernel's first result, whole, -/
theorem ker_out : Cert.KernelIdeal.Gen.V4 m (Cert.KernelIdeal.Body.outs m) c Cert.KernelIdeal.main_v0_0 = outV a := by
  funext i
  idx_vars i
  exact Cert.KerValue.end_out m c a h i0 i1 i2
/-- and the second. -/
theorem ker_mem : Cert.KernelIdeal.Gen.V4 m (Cert.KernelIdeal.Body.outs m) c Cert.KernelIdeal.main_v0_1 = memV a := by
  funext i
  idx_vars i
  exact Cert.KerValue.end_mem m c a h i0 i1 i2

/-! The arguments, whole. -/

theorem arg_0 : m ((c : Thread Cert.KernelIdeal.nD Cert.KernelIdeal.τ).loc Cert.KernelIdeal.main_arg0) = A0 a := by
  funext i
  idx_vars i
  exact h.X i0 i1 i2
theorem arg_1 : m ((c : Thread Cert.KernelIdeal.nD Cert.KernelIdeal.τ).loc Cert.KernelIdeal.main_arg1) = A1 a := by
  funext i
  idx_vars i
  exact h.Q i0 i1
theorem arg_2 : m ((c : Thread Cert.KernelIdeal.nD Cert.KernelIdeal.τ).loc Cert.KernelIdeal.main_arg2) = A2 a := by
  funext i
  idx_vars i
  exact h.Rq i0 i1
theorem arg_3 : m ((c : Thread Cert.KernelIdeal.nD Cert.KernelIdeal.τ).loc Cert.KernelIdeal.main_arg3) = A3 a := by
  funext i
  idx_vars i
  exact h.Rkv i0 i1
theorem arg_4 : m ((c : Thread Cert.KernelIdeal.nD Cert.KernelIdeal.τ).loc Cert.KernelIdeal.main_arg4) = A4 a := by
  funext i
  idx_vars i
  exact h.Wq i0 i1
theorem arg_5 : m ((c : Thread Cert.KernelIdeal.nD Cert.KernelIdeal.τ).loc Cert.KernelIdeal.main_arg5) = A5 a := by
  funext i
  idx_vars i
  exact h.Wk i0 i1
theorem arg_6 : m ((c : Thread Cert.KernelIdeal.nD Cert.KernelIdeal.τ).loc Cert.KernelIdeal.main_arg6) = A6 a := by
  funext i
  idx_vars i
  exact h.Wv i0 i1
theorem arg_7 : m ((c : Thread Cert.KernelIdeal.nD Cert.KernelIdeal.τ).loc Cert.KernelIdeal.main_arg7) = A7 a := by
  funext i
  idx_vars i
  exact h.wm i0

end

/-- The reference's first result over real arguments, -/
theorem ref_out (a : Cert.Spec.In) : Cert.ReferenceIdeal.Read.val_main_v81 (F := Ideal) (A0 a) (A1 a) (A2 a) (A3 a) (A4 a) (A5 a) (A6 a) (A7 a) = outV a :=
  funext fun i => v81 a i
/-- and the second. -/
theorem ref_mem (a : Cert.Spec.In) : Cert.ReferenceIdeal.Read.val_main_v40 (F := Ideal) (A0 a) (A1 a) (A4 a) (A5 a) (A6 a) (A7 a) = memV a :=
  funext fun i => v40 a i

/-- At `Ideal`, on real arguments, both results of the kernel are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => outV (tables m c), fun c => memV (tables m c), ?_, ?_⟩
  · refine (θ_run _ _ _).mono (fun r hr c => ?_) (Cert.KernelIdeal.Body.run m g)
    obtain ⟨hargs, h0, h1⟩ := hr.1 c
    exact ⟨h0.trans (ker_out m c _ (holds m hpre c)), h1.trans (ker_mem m c _ (holds m hpre c)), hargs⟩
  · refine (θ_run _ _ _).mono (fun r hr c => ?_) (Cert.ReferenceIdeal.Value.run m' g')
    obtain ⟨h0, h1, hargs⟩ := hr c
    obtain ⟨e0, e1, e2, e3, e4, e5, e6, e7⟩ := hagree c
    have hh := holds m hpre c
    have a0 := e0.trans (arg_0 m c _ hh)
    have a1 := e1.trans (arg_1 m c _ hh)
    have a2 := e2.trans (arg_2 m c _ hh)
    have a3 := e3.trans (arg_3 m c _ hh)
    have a4 := e4.trans (arg_4 m c _ hh)
    have a5 := e5.trans (arg_5 m c _ hh)
    have a6 := e6.trans (arg_6 m c _ hh)
    have a7 := e7.trans (arg_7 m c _ hh)
    refine ⟨?_, ?_, hargs⟩
    · refine (h0.trans (Cert.ReferenceIdeal.Read.val_main_v81_eq _)).trans (Eq.trans ?_ (ref_out (tables m c)))
      rw [← a0, ← a1, ← a2, ← a3, ← a4, ← a5, ← a6, ← a7]
    · refine (h1.trans (Cert.ReferenceIdeal.Read.val_main_v40_eq _)).trans (Eq.trans ?_ (ref_mem (tables m c)))
      rw [← a0, ← a1, ← a4, ← a5, ← a6, ← a7]

end Cert.Proof

end
-- ==== Proof.lean ====
/-
  The certificate: the claims of the modules beside this one, put together.
-/
module

public import proofs.«01_k».proof.Defs
public import proofs.«01_k».proof.Proof.Frames
public import proofs.«01_k».proof.Proof.Gen.Pre_finite
public import proofs.«01_k».proof.Proof.Value

@[expose] public section

noncomputable section

namespace Cert.Proof

/-- Everything that the certificate claims. -/
theorem claim : Cert.Claim := ⟨Cert.Kernel.Gen.facts, Cert.KernelIdeal.Gen.facts, Cert.ReferenceIdeal.Gen.facts, Cert.Pre_finite.Gen.facts,
  frame_Kernel, frame_KernelIdeal, frame_KernelIdeal_finite, frame_ReferenceIdeal, frame_ReferenceIdeal_finite, preserves_Kernel, algebraic⟩

end Cert.Proof

end
